-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x3584x512 : Shape := ⟨3, ![3, 3584, 512]⟩
abbrev S3x512 : Shape := ⟨2, ![3, 512]⟩
abbrev S3584x3584 : Shape := ⟨2, ![3584, 3584]⟩
abbrev S3x1792x512 : Shape := ⟨3, ![3, 1792, 512]⟩
abbrev S3x28x512 : Shape := ⟨3, ![3, 28, 512]⟩
abbrev S3584x256 : Shape := ⟨2, ![3584, 256]⟩
abbrev S3x128x512 : Shape := ⟨3, ![3, 128, 512]⟩
abbrev S1x3584x512 : Shape := ⟨3, ![1, 3584, 512]⟩
abbrev S3584x512 : Shape := ⟨2, ![3584, 512]⟩
abbrev S256x512 : Shape := ⟨2, ![256, 512]⟩
abbrev S1x512 : Shape := ⟨2, ![1, 512]⟩
abbrev S128x512 : Shape := ⟨2, ![128, 512]⟩
abbrev S512 : Shape := ⟨1, ![512]⟩
abbrev S64x512 : Shape := ⟨2, ![64, 512]⟩
abbrev S1x64x512 : Shape := ⟨3, ![1, 64, 512]⟩
abbrev S1x1x512 : Shape := ⟨3, ![1, 1, 512]⟩

abbrev nBuf : Space → Nat
  | .hbm => 5
  | .vmem => 9
  | .smem => 0
  | _ => 0

abbrev bufTy : (tb : Table) → Fin (tcTables nBuf tb) → BufTy
  | .hbm, ⟨0, _⟩ => ⟨S3x3584x512, .i8⟩
  | .hbm, ⟨1, _⟩ => ⟨S3x512, .f32⟩
  | .hbm, ⟨2, _⟩ => ⟨S3584x3584, .bf16⟩
  | .hbm, ⟨3, _⟩ => ⟨S3x1792x512, .i8⟩
  | .hbm, ⟨4, _⟩ => ⟨S3x28x512, .bf16⟩
  | .local _ .vmem, ⟨0, _⟩ => ⟨S3x3584x512, .i8⟩
  | .local _ .vmem, ⟨1, _⟩ => ⟨S3x512, .f32⟩
  | .local _ .vmem, ⟨2, _⟩ => ⟨S3584x256, .bf16⟩
  | .local _ .vmem, ⟨3, _⟩ => ⟨S3584x256, .bf16⟩
  | .local _ .vmem, ⟨4, _⟩ => ⟨S3x128x512, .i8⟩
  | .local _ .vmem, ⟨5, _⟩ => ⟨S3x128x512, .i8⟩
  | .local _ .vmem, ⟨6, _⟩ => ⟨S3x28x512, .bf16⟩
  | .local _ .vmem, ⟨7, _⟩ => ⟨S3x3584x512, .bf16⟩
  | .local _ .vmem, ⟨8, _⟩ => ⟨S3x28x512, .f32⟩
  | _, _ => ⟨S3x3584x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![14], ![false]⟩

def k0_off1 (i : grid0.Coords) (c0_i32_15 : BitVec 32) : Fin 3 → Nat :=
  let c0_16 : Index := 0#32
  let arg0 : BitVec 32 := BitVec.ofNat 32 (i 0).val
  let c2_i32 : BitVec 32 := 2#32
  let v48 : BitVec 32 := Scalar.muli arg0 c2_i32
  let v49 : BitVec 32 := Scalar.addi v48 c0_i32_15
  let v50 : Index := Scalar.indexCast v49
  let c0_17 : Index := 0#32
  ![0, v50.toNat, 0]
def k0_off2 (i : grid0.Coords) (c0_i32_52 : BitVec 32) : Fin 3 → Nat :=
  let c1_53 : Index := 1#32
  let arg0 : BitVec 32 := BitVec.ofNat 32 (i 0).val
  let c2_i32_51 : BitVec 32 := 2#32
  let v142 : BitVec 32 := Scalar.muli arg0 c2_i32_51
  let v143 : BitVec 32 := Scalar.addi v142 c0_i32_52
  let v144 : Index := Scalar.indexCast v143
  let c0_54 : Index := 0#32
  ![1, v144.toNat, 0]
def k0_off3 (i : grid0.Coords) (c0_i32_91 : BitVec 32) : Fin 3 → Nat :=
  let c2_92 : Index := 2#32
  let arg0 : BitVec 32 := BitVec.ofNat 32 (i 0).val
  let c2_i32_90 : BitVec 32 := 2#32
  let v236 : BitVec 32 := Scalar.muli arg0 c2_i32_90
  let v237 : BitVec 32 := Scalar.addi v236 c0_i32_91
  let v238 : Index := Scalar.indexCast v237
  let c0_93 : Index := 0#32
  ![2, v238.toNat, 0]
def k0_cond2 (i : grid0.Coords) : BitVec 1 :=
  let arg0 : BitVec 32 := BitVec.ofNat 32 (i 0).val
  let c13_i32 : BitVec 32 := 13#32
  let v286 : BitVec 1 := Scalar.cmpi .eq arg0 c13_i32
  let v287 : BitVec 32 := Scalar.extui v286
  let c0_i32_111 : BitVec 32 := 0#32
  let v288 : BitVec 1 := Scalar.cmpi .ne v287 c0_i32_111
  v288

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S3x3584x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x28x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S3x3584x512 : Shape := ⟨3, ![3, 3584, 512]⟩
abbrev S3x512 : Shape := ⟨2, ![3, 512]⟩
abbrev S3584x3584 : Shape := ⟨2, ![3584, 3584]⟩
abbrev S3584x1792x2 : Shape := ⟨3, ![3584, 1792, 2]⟩
abbrev S3x512x1792x2 : Shape := ⟨4, ![3, 512, 1792, 2]⟩
abbrev S2x3x1792x512 : Shape := ⟨4, ![2, 3, 1792, 512]⟩
abbrev S1x3x1x512 : Shape := ⟨4, ![1, 3, 1, 512]⟩
abbrev S2x3x28x64x512 : Shape := ⟨5, ![2, 3, 28, 64, 512]⟩
abbrev S_ : Shape := ⟨0, ![]⟩
abbrev S3x28x512 : Shape := ⟨3, ![3, 28, 512]⟩
abbrev S1x3x28x1x512 : Shape := ⟨5, ![1, 3, 28, 1, 512]⟩
abbrev S1x3x1792x512 : Shape := ⟨4, ![1, 3, 1792, 512]⟩
abbrev S3x1792x512 : Shape := ⟨3, ![3, 1792, 512]⟩

abbrev nBuf : Space → Nat
  | .hbm => 60
  | .vmem => 0
  | .smem => 0
  | _ => 0

abbrev bufTy : (tb : Table) → Fin (tcTables nBuf tb) → BufTy
  | .hbm, ⟨0, _⟩ => ⟨S3x3584x512, .i8⟩
  | .hbm, ⟨1, _⟩ => ⟨S3x512, .f32⟩
  | .hbm, ⟨2, _⟩ => ⟨S3584x3584, .bf16⟩
  | .hbm, ⟨3, _⟩ => ⟨S3x3584x512, .i32⟩
  | .hbm, ⟨4, _⟩ => ⟨S3x3584x512, .f32⟩
  | .hbm, ⟨5, _⟩ => ⟨S3x3584x512, .bf16⟩
  | .hbm, ⟨6, _⟩ => ⟨S3584x1792x2, .bf16⟩
  | .hbm, ⟨7, _⟩ => ⟨S3x512x1792x2, .f32⟩
  | .hbm, ⟨8, _⟩ => ⟨S2x3x1792x512, .f32⟩
  | .hbm, ⟨9, _⟩ => ⟨S1x3x1x512, .f32⟩
  | .hbm, ⟨10, _⟩ => ⟨S2x3x1792x512, .f32⟩
  | .hbm, ⟨11, _⟩ => ⟨S2x3x1792x512, .f32⟩
  | .hbm, ⟨12, _⟩ => ⟨S2x3x28x64x512, .f32⟩
  | .hbm, ⟨13, _⟩ => ⟨S2x3x28x64x512, .f32⟩
  | .hbm, ⟨14, _⟩ => ⟨S_, .f32⟩
  | .hbm, ⟨15, _⟩ => ⟨S3x28x512, .f32⟩
  | .hbm, ⟨16, _⟩ => ⟨S_, .f32⟩
  | .hbm, ⟨17, _⟩ => ⟨S3x28x512, .f32⟩
  | .hbm, ⟨18, _⟩ => ⟨S3x28x512, .i1⟩
  | .hbm, ⟨19, _⟩ => ⟨S_, .f32⟩
  | .hbm, ⟨20, _⟩ => ⟨S3x28x512, .f32⟩
  | .hbm, ⟨21, _⟩ => ⟨S3x28x512, .f32⟩
  | .hbm, ⟨22, _⟩ => ⟨S_, .f32⟩
  | .hbm, ⟨23, _⟩ => ⟨S_, .f32⟩
  | .hbm, ⟨24, _⟩ => ⟨S3x28x512, .f32⟩
  | .hbm, ⟨25, _⟩ => ⟨S3x28x512, .f32⟩
  | .hbm, ⟨26, _⟩ => ⟨S3x28x512, .bf16⟩
  | .hbm, ⟨27, _⟩ => ⟨S3x28x512, .f32⟩
  | .hbm, ⟨28, _⟩ => ⟨S1x3x28x1x512, .f32⟩
  | .hbm, ⟨29, _⟩ => ⟨S2x3x28x64x512, .f32⟩
  | .hbm, ⟨30, _⟩ => ⟨S2x3x28x64x512, .f32⟩
  | .hbm, ⟨31, _⟩ => ⟨S2x3x28x64x512, .f32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S2x3x28x64x512, .f32⟩
  | .hbm, ⟨36, _⟩ => ⟨S2x3x28x64x512, .f32⟩
  | .hbm, ⟨37, _⟩ => ⟨S_, .f32⟩
  | .hbm, ⟨38, _⟩ => ⟨S2x3x28x64x512, .f32⟩
  | .hbm, ⟨39, _⟩ => ⟨S2x3x28x64x512, .f32⟩
  | .hbm, ⟨40, _⟩ => ⟨S2x3x28x64x512, .i32⟩
  | .hbm, ⟨41, _⟩ => ⟨S2x3x28x64x512, .i8⟩
  | .hbm, ⟨42, _⟩ => ⟨S2x3x1792x512, .i8⟩
  | .hbm, ⟨43, _⟩ => ⟨S1x3x1792x512, .i8⟩
  | .hbm, ⟨44, _⟩ => ⟨S3x1792x512, .i8⟩
  | .hbm, ⟨45, _⟩ => ⟨S3x1792x512, .i32⟩
  | .hbm, ⟨46, _⟩ => ⟨S_, .i32⟩
  | .hbm, ⟨47, _⟩ => ⟨S3x1792x512, .i32⟩
  | .hbm, ⟨48, _⟩ => ⟨S3x1792x512, .i32⟩
  | .hbm, ⟨49, _⟩ => ⟨S1x3x1792x512, .i8⟩
  | .hbm, ⟨50, _⟩ => ⟨S3x1792x512, .i8⟩
  | .hbm, ⟨51, _⟩ => ⟨S3x1792x512, .i32⟩
  | .hbm, ⟨52, _⟩ => ⟨S_, .i32⟩
  | .hbm, ⟨53, _⟩ => ⟨S3x1792x512, .i32⟩
  | .hbm, ⟨54, _⟩ => ⟨S3x1792x512, .i32⟩
  | .hbm, ⟨55, _⟩ => ⟨S_, .i32⟩
  | .hbm, ⟨56, _⟩ => ⟨S3x1792x512, .i32⟩
  | .hbm, ⟨57, _⟩ => ⟨S3x1792x512, .i32⟩
  | .hbm, ⟨58, _⟩ => ⟨S3x1792x512, .i32⟩
  | .hbm, ⟨59, _⟩ => ⟨S3x1792x512, .i8⟩
  | _, _ => ⟨S3x3584x512, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_c_3 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Proof.Uniform.lean ====
/- What one grid point of the fused kernel stores, as functions of the blocks it reads: the scaled product, its two
   groups of 128 rows, a group's scale row and a group's packed codes. The six groups the body handles at a point
   (three batches, two groups each) are printed as separate payloads; each is one of these functions, by `rfl`. -/
module

public import proofs.«01_k».proof.Proof.Gen.KernelIdeal.Skeleton
public import proofs.«01_k».proof.Proof.Gen.KernelIdeal.Frame
public import Idealize.ShloMosaic.Lib.Pointwise

@[expose] public section

set_option maxRecDepth 16384

noncomputable section

namespace Cert.KernelIdeal.Body

open Idealize.ShloMosaic Idealize.ShloMosaic.TcCoe
open Cert.KernelIdeal Cert.KernelIdeal.Gen

variable {F : FTy → Type} [FloatOps F]

/-- The first 128 rows of a product. -/
def grpA (a : FVec F S256x512 .f32) : FVec F S128x512 .f32 :=
  extractStridedSlice S128x512 ![0, 0] a slices_S256x512_o0_0_S128x512

/-- The last 128 rows of a product. -/
def grpB (a : FVec F S256x512 .f32) : FVec F S128x512 .f32 :=
  extractStridedSlice S128x512 ![128, 0] a slices_S256x512_o128_0_S128x512

/-- Group `g` of a product: rows `128 g` to `128 g + 127`, for `g` zero or not. -/
def grp (g : ℕ) (a : FVec F S256x512 .f32) : FVec F S128x512 .f32 := if g = 0 then grpA a else grpB a

/-- A group's scale row, as the body keeps it in the scratch. -/
def scl (q : FVec F S128x512 .f32) : FVec F S1x1x512 .f32 := k0_pay34 (absf q)

/-- A group's codes, two successive rows packed in a byte. -/
def code (q : FVec F S128x512 .f32) : IVec S1x64x512 8 := k0_pay33 q (absf q)

/-- Batch `b` of the widened codes, as the body loads it. -/
def slab (xw : Vec F S3x3584x512 .bf16) (b : Fin 3) : Vec F S1x3584x512 .bf16 := fun z => xw (ix3 b (z 1) (z 2))

/-- Batch `b` of the weight scales, as the body loads it. -/
def wrow (x1 : Vec F S3x512 .f32) (b : Fin 3) : Vec F S1x512 .f32 := fun z => x1 (ix2 b (z 1))

/-- The scaled product of batch `b` at a point whose block of the left factor is `x2`. -/
def prod (xw : Vec F S3x3584x512 .bf16) (x1 : Vec F S3x512 .f32) (x2 : Vec F S3584x256 .bf16) (b : Fin 3) :
    FVec F S256x512 .f32 := k0_pay4 x2 (slab xw b) (wrow x1 b)

/-- What a point leaves in the code block: row `r` of batch `b` is row `r % 64` of group `r / 64`'s codes. -/
def out3 (xw : Vec F S3x3584x512 .bf16) (x1 : Vec F S3x512 .f32) (x2 : Vec F S3584x256 .bf16) : Vec F S3x128x512 .i8 :=
  fun y => code (grp ((y 1 : Fin 128).val / 64) (prod xw x1 x2 (y 0)))
    (ix3 0 ⟨(y 1 : Fin 128).val % 64, Nat.mod_lt _ (by decide)⟩ (y 2))

/-- What point `n` leaves in the scale scratch found at `xs`: rows `2 n` and `2 n + 1` of every batch are the point's
    scale rows, the others are as found. -/
def rows7 (n : ℕ) (xw : Vec F S3x3584x512 .bf16) (x1 : Vec F S3x512 .f32) (x2 : Vec F S3584x256 .bf16)
    (xs : Vec F S3x28x512 .f32) : Vec F S3x28x512 .f32 :=
  fun y => if (y 1 : Fin 28).val / 2 = n then scl (grp ((y 1 : Fin 28).val % 2) (prod xw x1 x2 (y 0))) (ix3 0 0 (y 2))
    else xs y

/-! ## The printed payloads are these functions -/

section
variable (v3 : Vec F S3584x256 .bf16) (v4 : Vec F S1x3584x512 .bf16) (v7 : Vec F S1x512 .f32) (v9 : FVec F S256x512 .f32)

theorem pay_code0 : k0_pay10 (k0_pay8 v3 v4 v7) (k0_pay9 v3 v4 v7) 15#32 = code (grpA (k0_pay4 v3 v4 v7)) := rfl
theorem pay_code1 : k0_pay16 (k0_pay14 v9) (k0_pay15 v9) 16#32 = code (grpB v9) := rfl
theorem pay_code2 : k0_pay22 (k0_pay21 v3 v4 v7) 4294967289#32 = code (grpA (k0_pay4 v3 v4 v7)) := rfl
theorem pay_code3 : k0_pay27 (k0_pay24 v9) (k0_pay26 v9) = code (grpB v9) := rfl
theorem pay_code4 : k0_pay33 (k0_pay30 v3 v4 v7) (k0_pay31 v3 v4 v7) = code (grpA (k0_pay4 v3 v4 v7)) := rfl
theorem pay_code5 : k0_pay37 v9 = code (grpB v9) := rfl
theorem pay_scl0 : k0_pay11 (k0_pay6 v3 v4 v7) = scl (grpA (k0_pay4 v3 v4 v7)) := rfl
theorem pay_scl1 : k0_pay17 (k0_pay13 v9) = scl (grpB v9) := rfl
theorem pay_scl2 : k0_pay23 (k0_pay20 v3 v4 v7) = scl (grpA (k0_pay4 v3 v4 v7)) := rfl
theorem pay_scl3 : k0_pay28 (k0_pay25 v9) = scl (grpB v9) := rfl
theorem pay_scl4 : k0_pay34 (k0_pay31 v3 v4 v7) = scl (grpA (k0_pay4 v3 v4 v7)) := rfl
theorem pay_scl5 : k0_pay1 (k0_pay36 v9) = scl (grpB v9) := rfl
theorem pay_prod1 : k0_pay18 v3 v4 v7 = k0_pay4 v3 v4 v7 := rfl
theorem pay_prod2 : k0_pay29 v3 v4 v7 = k0_pay4 v3 v4 v7 := rfl
end

section
variable (xw : Vec F S3x3584x512 .bf16) (x1 : Vec F S3x512 .f32) (x2 : Vec F S3584x256 .bf16) (b : Fin 3)

/-- The printed form of a first group's codes, of its scale row, and of a second group's. -/
theorem fold_codeA : code (grpA (k0_pay4 x2 (slab xw b) (wrow x1 b))) = code (grp 0 (prod xw x1 x2 b)) := rfl
theorem fold_codeB : code (grpB (k0_pay4 x2 (slab xw b) (wrow x1 b))) = code (grp 1 (prod xw x1 x2 b)) := rfl
theorem fold_sclA : scl (grpA (k0_pay4 x2 (slab xw b) (wrow x1 b))) = scl (grp 0 (prod xw x1 x2 b)) := rfl
theorem fold_sclB : scl (grpB (k0_pay4 x2 (slab xw b) (wrow x1 b))) = scl (grp 1 (prod xw x1 x2 b)) := rfl
end

end Cert.KernelIdeal.Body

end
-- ==== Proof.Conds.lean ====
/- Facts every run of the kernel body shares: where its two conditionals hold, where its windows are idle, the memrefs
   the pipeline passes it, and the scratch buffers as owned memrefs. -/
module

public import proofs.«01_k».proof.Proof.Uniform

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle: every point stores its whole block. -/
theorem liveAt0_3 : ∀ t : Fin cfg0.N, cfg0.idle 3 (grid0.coords t) = false := fun _ => rfl

/-- Each window's current staging memref at point `t`, spelled as the pipeline passes it (`bodyAt0`), and its wholeness. -/
abbrev ms0_0 (t : Fin cfg0.N) : Memref sig .tc .vmem S3x3584x512 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x128x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x28x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S3x3584x512 .bf16 := Memref.whole cc0_scratch0
abbrev scM0_1 : Memref sig .tc .vmem S3x28x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The rows of the scale scratch a point stores -/

/-- The scale row of batch 0's group `g`. -/
theorem off1_eq (i : grid0.Coords) (g : Fin 2) : k0_off1 i (BitVec.ofNat 32 g.val) = ![0, 2 * (i 0 : Fin 14).val + g.val, 0] := by
  have h : ∀ (n : Fin 14) (g : Fin 2), (Scalar.indexCast (Scalar.addi (Scalar.muli (BitVec.ofNat 32 n.val) 2#32) (BitVec.ofNat 32 g.val))).toNat = 2 * n.val + g.val := by decide
  exact congrArg (fun k => (![0, k, 0] : Fin 3 → ℕ)) (h (i 0) g)
/-- The scale row of batch 1's group `g`. -/
theorem off2_eq (i : grid0.Coords) (g : Fin 2) : k0_off2 i (BitVec.ofNat 32 g.val) = ![1, 2 * (i 0 : Fin 14).val + g.val, 0] := by
  have h : ∀ (n : Fin 14) (g : Fin 2), (Scalar.indexCast (Scalar.addi (Scalar.muli (BitVec.ofNat 32 n.val) 2#32) (BitVec.ofNat 32 g.val))).toNat = 2 * n.val + g.val := by decide
  exact congrArg (fun k => (![1, k, 0] : Fin 3 → ℕ)) (h (i 0) g)
/-- The scale row of batch 2's group `g`. -/
theorem off3_eq (i : grid0.Coords) (g : Fin 2) : k0_off3 i (BitVec.ofNat 32 g.val) = ![2, 2 * (i 0 : Fin 14).val + g.val, 0] := by
  have h : ∀ (n : Fin 14) (g : Fin 2), (Scalar.indexCast (Scalar.addi (Scalar.muli (BitVec.ofNat 32 n.val) 2#32) (BitVec.ofNat 32 g.val))).toNat = 2 * n.val + g.val := by decide
  exact congrArg (fun k => (![2, k, 0] : Fin 3 → ℕ)) (h (i 0) g)

end Cert.KernelIdeal.Body

end
-- ==== Proof.Stores.lean ====
/- What the body's loads and stores come to, at any buffer: a load of one batch, the six code stores read back, the six
   scale-row stores read back. -/
module

public import proofs.«01_k».proof.Proof.Conds
public import Idealize.ShloMosaic.Lib.WritesUnit

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable {F : FTy → Type} [FloatOps F]

section
variable {sig : RefSig} {κ : Kind} {sp : Space}

/-- A load of batch `b` of the widened codes. -/
theorem load_slab (v : View sig κ sp S3x3584x512 .bf16) (f : v.ty.Contents (Elt F)) (b : Fin 3) {off : Fin 3 → ℕ}
    (hoff : off = ![b.val, 0, 0]) (inb : ∀ a, off a + S1x3584x512.size a ≤ S3x3584x512.size a) :
    v.readAt (Elt F) (Rect.unit (s := S3x3584x512) off S1x3584x512.size inb).toLoadRect f = slab (v.read (Elt F) f) b := by
  subst hoff
  funext z
  show v.read (Elt F) f _ = v.read (Elt F) f _
  congr 1
  funext a
  apply Fin.ext
  have h0 : (z 0).val < 1 := (z 0).isLt
  match a with
  | ⟨0, _⟩ => show b.val + 1 * (z 0).val = b.val; omega
  | ⟨1, _⟩ => show 0 + 1 * (z 1).val = (z 1).val; omega
  | ⟨2, _⟩ => show 0 + 1 * (z 2).val = (z 2).val; omega

/-- A load of batch `b` of the weight scales. -/
theorem load_wrow (v : View sig κ sp S3x512 .f32) (f : v.ty.Contents (Elt F)) (b : Fin 3) {off : Fin 2 → ℕ}
    (hoff : off = ![b.val, 0]) (inb : ∀ a, off a + S1x512.size a ≤ S3x512.size a) :
    v.readAt (Elt F) (Rect.unit (s := S3x512) off S1x512.size inb).toLoadRect f = wrow (v.read (Elt F) f) b := by
  subst hoff
  funext z
  show v.read (Elt F) f _ = v.read (Elt F) f _
  congr 1
  funext a
  apply Fin.ext
  have h0 : (z 0).val < 1 := (z 0).isLt
  match a with
  | ⟨0, _⟩ => show b.val + 1 * (z 0).val = b.val; omega
  | ⟨1, _⟩ => show 0 + 1 * (z 1).val = (z 1).val; omega

/-- A load of the whole block of the left factor. -/
theorem load_fac (v : View sig κ sp S3584x256 .bf16) (f : v.ty.Contents (Elt F))
    (inb : ∀ a, (![0, 0] : Fin 2 → ℕ) a + S3584x256.size a ≤ S3584x256.size a) :
    v.readAt (Elt F) (Rect.unit (s := S3584x256) ![0, 0] S3584x256.size inb).toLoadRect f = v.read (Elt F) f := by
  funext z
  show v.read (Elt F) f _ = v.read (Elt F) f _
  congr 1
  funext a
  apply Fin.ext
  match a with
  | ⟨0, _⟩ => show 0 + 1 * (z 0).val = (z 0).val; omega
  | ⟨1, _⟩ => show 0 + 1 * (z 1).val = (z 1).val; omega

/-- A load of the whole scale scratch. -/
theorem load_rows (v : View sig κ sp S3x28x512 .f32) (f : v.ty.Contents (Elt F))
    (inb : ∀ a, (![0, 0, 0] : Fin 3 → ℕ) a + S3x28x512.size a ≤ S3x28x512.size a) :
    v.readAt (Elt F) (Rect.unit (s := S3x28x512) ![0, 0, 0] S3x28x512.size inb).toLoadRect f = v.read (Elt F) f := by
  funext z
  show v.read (Elt F) f _ = v.read (Elt F) f _
  congr 1
  funext a
  apply Fin.ext
  match a with
  | ⟨0, _⟩ => show 0 + 1 * (z 0).val = (z 0).val; omega
  | ⟨1, _⟩ => show 0 + 1 * (z 1).val = (z 1).val; omega
  | ⟨2, _⟩ => show 0 + 1 * (z 2).val = (z 2).val; omega

/-! The same loads at the offsets and sizes as literals, the form a run leaves them in. -/

theorem load_slab0 (v : View sig κ sp S3x3584x512 .bf16) (f : v.ty.Contents (Elt F)) (inb) :
    v.readAt (Elt F) (Rect.unit (s := S3x3584x512) ![0, 0, 0] ![1, 3584, 512] inb).toLoadRect f = slab (v.read (Elt F) f) 0 :=
  load_slab v f 0 rfl inb
theorem load_wrow0 (v : View sig κ sp S3x512 .f32) (f : v.ty.Contents (Elt F)) (inb) :
    v.readAt (Elt F) (Rect.unit (s := S3x512) ![0, 0] ![1, 512] inb).toLoadRect f = wrow (v.read (Elt F) f) 0 :=
  load_wrow v f 0 rfl inb
theorem load_slab1 (v : View sig κ sp S3x3584x512 .bf16) (f : v.ty.Contents (Elt F)) (inb) :
    v.readAt (Elt F) (Rect.unit (s := S3x3584x512) ![1, 0, 0] ![1, 3584, 512] inb).toLoadRect f = slab (v.read (Elt F) f) 1 :=
  load_slab v f 1 rfl inb
theorem load_wrow1 (v : View sig κ sp S3x512 .f32) (f : v.ty.Contents (Elt F)) (inb) :
    v.readAt (Elt F) (Rect.unit (s := S3x512) ![1, 0] ![1, 512] inb).toLoadRect f = wrow (v.read (Elt F) f) 1 :=
  load_wrow v f 1 rfl inb
theorem load_slab2 (v : View sig κ sp S3x3584x512 .bf16) (f : v.ty.Contents (Elt F)) (inb) :
    v.readAt (Elt F) (Rect.unit (s := S3x3584x512) ![2, 0, 0] ![1, 3584, 512] inb).toLoadRect f = slab (v.read (Elt F) f) 2 :=
  load_slab v f 2 rfl inb
theorem load_wrow2 (v : View sig κ sp S3x512 .f32) (f : v.ty.Contents (Elt F)) (inb) :
    v.readAt (Elt F) (Rect.unit (s := S3x512) ![2, 0] ![1, 512] inb).toLoadRect f = wrow (v.read (Elt F) f) 2 :=
  load_wrow v f 2 rfl inb
theorem load_fac' (v : View sig κ sp S3584x256 .bf16) (f : v.ty.Contents (Elt F)) (inb) :
    v.readAt (Elt F) (Rect.unit (s := S3584x256) ![0, 0] ![3584, 256] inb).toLoadRect f = v.read (Elt F) f :=
  load_fac v f inb
theorem load_rows' (v : View sig κ sp S3x28x512 .f32) (f : v.ty.Contents (Elt F)) (inb) :
    v.readAt (Elt F) (Rect.unit (s := S3x28x512) ![0, 0, 0] ![3, 28, 512] inb).toLoadRect f = v.read (Elt F) f :=
  load_rows v f inb

variable (xw : Vec F S3x3584x512 .bf16) (x1 : Vec F S3x512 .f32) (x2 : Vec F S3584x256 .bf16)

/-- A load of all the codes reads them all. -/
theorem load_codes' (v : View sig κ sp S3x3584x512 .i8) (f : v.ty.Contents (Elt F)) (inb) :
    v.readAt (Elt F) (Rect.unit (s := S3x3584x512) ![0, 0, 0] ![3, 3584, 512] inb).toLoadRect f = v.read (Elt F) f := by
  funext y
  exact congrArg (v.read (Elt F) f) (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

/-- A store of the whole scales' block leaves its payload. -/
theorem read_whole_bf16 (v : View sig κ sp S3x28x512 .bf16) (f : v.ty.Contents (Elt F)) (w : Vec F S3x28x512 .bf16) (inb) :
    v.read (Elt F) (v.writes (Elt F) f [⟨Rect.unit (s := S3x28x512) ![0, 0, 0] ![3, 28, 512] inb, w⟩]) = w := by
  funext y
  refine View.read_writes_cons_unit_of_mem v f inb w [] y y rfl fun a => ?_
  match a with
  | ⟨0, _⟩ => show (y 0).val = 0 + (y 0).val; omega
  | ⟨1, _⟩ => show (y 1).val = 0 + (y 1).val; omega
  | ⟨2, _⟩ => show (y 2).val = 0 + (y 2).val; omega

/-- A store of the whole widened codes leaves its payload. -/
theorem read_whole_codes (v : View sig κ sp S3x3584x512 .bf16) (f : v.ty.Contents (Elt F)) (w : Vec F S3x3584x512 .bf16) (inb) :
    v.read (Elt F) (v.writes (Elt F) f [⟨Rect.unit (s := S3x3584x512) ![0, 0, 0] ![3, 3584, 512] inb, w⟩]) = w := by
  funext y
  refine View.read_writes_cons_unit_of_mem v f inb w [] y y rfl fun a => ?_
  match a with
  | ⟨0, _⟩ => show (y 0).val = 0 + (y 0).val; omega
  | ⟨1, _⟩ => show (y 1).val = 0 + (y 1).val; omega
  | ⟨2, _⟩ => show (y 2).val = 0 + (y 2).val; omega

/-- The codes of group `g` of batch `b`, stored at row `64 g` of the code block. -/
abbrev codePiece (b : Fin 3) (g : ℕ) (inb : ∀ a, (![b.val, 64 * g, 0] : Fin 3 → ℕ) a + S1x64x512.size a ≤ S3x128x512.size a) :
    View.Piece (Elt F) S3x128x512 .i8 :=
  ⟨Rect.unit (s := S3x128x512) ![b.val, 64 * g, 0] S1x64x512.size inb, code (grp g (prod xw x1 x2 b))⟩

/-- A code store agrees with `out3`. -/
theorem codePiece_at (b : Fin 3) (g : ℕ) (inb) (x : (codePiece xw x1 x2 b g inb).1.shape.Idx) :
    (codePiece xw x1 x2 b g inb).2 x = out3 xw x1 x2 ((codePiece xw x1 x2 b g inb).1.emb x) := by
  have h0 : (x 0).val < 1 := (x 0).isLt
  have h1 : (x 1).val < 64 := (x 1).isLt
  have e0 : ((codePiece xw x1 x2 b g inb).1.emb x 0 : Fin 3) = b := Fin.ext (by
    show b.val + 1 * (x 0).val = b.val; omega)
  have e1 : ((codePiece xw x1 x2 b g inb).1.emb x 1 : Fin 128).val = 64 * g + (x 1).val := by
    show 64 * g + 1 * (x 1).val = _; omega
  have e2 : ((codePiece xw x1 x2 b g inb).1.emb x 2 : Fin 512) = x 2 := Fin.ext (by
    show 0 + 1 * (x 2).val = (x 2).val; omega)
  unfold out3
  rw [e0, e2, show ((codePiece xw x1 x2 b g inb).1.emb x 1 : Fin 128).val / 64 = g by omega]
  refine congrArg (code (grp g (prod xw x1 x2 b))) (funext fun a => Fin.ext ?_)
  match a with
  | ⟨0, _⟩ => show (x 0).val = 0; omega
  | ⟨1, _⟩ => show (x 1).val = ((codePiece xw x1 x2 b g inb).1.emb x 1 : Fin 128).val % 64; omega
  | ⟨2, _⟩ => rfl

/-- The six code stores leave `out3`, whatever the block held. -/
theorem read_codes (v : View sig κ sp S3x128x512 .i8) (f : v.ty.Contents (Elt F)) (i0 i1 i2 i3 i4 i5) :
    v.read (Elt F) (v.writes (Elt F) f [codePiece xw x1 x2 2 1 i5, codePiece xw x1 x2 2 0 i4, codePiece xw x1 x2 1 1 i3,
      codePiece xw x1 x2 1 0 i2, codePiece xw x1 x2 0 1 i1, codePiece xw x1 x2 0 0 i0]) = out3 xw x1 x2 := by
  funext y
  refine View.read_writes_apply_of_pieces v f (out3 xw x1 x2) _ (fun p hp => ?_) y
    (View.cover_of_tiledL (s := S3x128x512) _ S1x64x512.size (by sl_kernel_rfl) y)
  simp only [List.mem_cons, List.not_mem_nil, or_false] at hp
  rcases hp with rfl | rfl | rfl | rfl | rfl | rfl <;> exact codePiece_at xw x1 x2 _ _ _

/-- The scale row of group `g` of batch `b` at point `n`, stored at row `2 n + g` of the scratch. -/
abbrev rowPiece (n : ℕ) (b : Fin 3) (g : ℕ) {off : Fin 3 → ℕ} (inb : ∀ a, off a + S1x1x512.size a ≤ S3x28x512.size a) :
    View.Piece (Elt F) S3x28x512 .f32 :=
  ⟨Rect.unit (s := S3x28x512) off S1x1x512.size inb, scl (grp g (prod xw x1 x2 b))⟩

/-- Reading just after the scale-row store of group `g` of batch `b`: the row at `(b, 2 n + g)`, what was there elsewhere. -/
theorem read_rowPiece (v : View sig κ sp S3x28x512 .f32) (f : v.ty.Contents (Elt F)) (L) (n : ℕ) (b : Fin 3) (g : ℕ)
    {off : Fin 3 → ℕ} (hoff : off = ![b.val, 2 * n + g, 0]) (inb) (y : S3x28x512.Idx) :
    v.read (Elt F) (v.writes (Elt F) f (rowPiece xw x1 x2 n b g (off := off) inb :: L)) y
      = if (y 0 : Fin 3).val = b.val ∧ (y 1 : Fin 28).val = 2 * n + g then scl (grp g (prod xw x1 x2 b)) (ix3 0 0 (y 2))
        else v.read (Elt F) (v.writes (Elt F) f L) y := by
  split_ifs with h
  · refine View.read_writes_cons_unit_of_mem v f inb _ L y (ix3 0 0 (y 2)) hoff fun a => ?_
    match a with
    | ⟨0, _⟩ => show (y 0).val = b.val + 0; exact h.1
    | ⟨1, _⟩ => show (y 1).val = 2 * n + g + 0; exact h.2
    | ⟨2, _⟩ => show (y 2).val = 0 + (y 2).val; omega
  · rcases not_and_or.mp h with h | h
    · refine View.read_writes_cons_unit_of_not_mem v f inb _ L y hoff 0 ?_
      show (y 0).val < b.val ∨ b.val + 1 ≤ (y 0).val
      omega
    · refine View.read_writes_cons_unit_of_not_mem v f inb _ L y hoff 1 ?_
      show (y 1).val < 2 * n + g ∨ 2 * n + g + 1 ≤ (y 1).val
      omega

/-- The six scale-row stores of point `n` leave `rows7`. -/
theorem read_rows (v : View sig κ sp S3x28x512 .f32) (f : v.ty.Contents (Elt F)) (n : ℕ)
    {o0 o1 o2 o3 o4 o5 : Fin 3 → ℕ} (h0 : o0 = ![0, 2 * n + 0, 0]) (h1 : o1 = ![0, 2 * n + 1, 0])
    (h2 : o2 = ![1, 2 * n + 0, 0]) (h3 : o3 = ![1, 2 * n + 1, 0]) (h4 : o4 = ![2, 2 * n + 0, 0])
    (h5 : o5 = ![2, 2 * n + 1, 0]) (i0 i1 i2 i3 i4 i5) :
    v.read (Elt F) (v.writes (Elt F) f [rowPiece xw x1 x2 n 2 1 (off := o5) i5, rowPiece xw x1 x2 n 2 0 (off := o4) i4,
      rowPiece xw x1 x2 n 1 1 (off := o3) i3, rowPiece xw x1 x2 n 1 0 (off := o2) i2,
      rowPiece xw x1 x2 n 0 1 (off := o1) i1, rowPiece xw x1 x2 n 0 0 (off := o0) i0])
      = rows7 n xw x1 x2 (v.read (Elt F) f) := by
  funext y
  rw [read_rowPiece xw x1 x2 v f _ n 2 1 h5, read_rowPiece xw x1 x2 v f _ n 2 0 h4, read_rowPiece xw x1 x2 v f _ n 1 1 h3,
    read_rowPiece xw x1 x2 v f _ n 1 0 h2, read_rowPiece xw x1 x2 v f _ n 0 1 h1, read_rowPiece xw x1 x2 v f _ n 0 0 h0]
  unfold rows7
  have hn : (y 1 : Fin 28).val / 2 = n ↔ (y 1 : Fin 28).val = 2 * n + 0 ∨ (y 1 : Fin 28).val = 2 * n + 1 := by omega
  have hb : (y 0 : Fin 3).val < 3 := (y 0 : Fin 3).isLt
  generalize (y 0 : Fin 3) = b at hb ⊢
  generalize (y 1 : Fin 28).val = r at hn ⊢
  by_cases hr : r / 2 = n
  · rw [if_pos hr]
    rcases hn.mp hr with e | e <;> subst e
    · rw [show (2 * n + 0) % 2 = 0 by omega]
      match b with
      | ⟨0, _⟩ => simp
      | ⟨1, _⟩ => simp
      | ⟨2, _⟩ => simp
    · rw [show (2 * n + 1) % 2 = 1 by omega]
      match b with
      | ⟨0, _⟩ => simp
      | ⟨1, _⟩ => simp
      | ⟨2, _⟩ => simp
  · rw [if_neg hr]
    have h0 : ¬ r = 2 * n + 0 := fun e => hr (hn.mpr (.inl e))
    have h1 : ¬ r = 2 * n + 1 := fun e => hr (hn.mpr (.inr e))
    simp only [h0, h1, and_false, if_false]
    rfl

end

end Cert.KernelIdeal.Body

end
-- ==== Proof.RunB.lean ====
/- The body at a point that is neither the first nor the last. -/
module

public import proofs.«01_k».proof.Proof.Stores

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point that is neither the first nor the last. The inputs' buffers are left as they were, the code block at `out3`, the scale scratch at `rows7` of what it
    held. -/
theorem run_B (c : Dev nD) (i : grid0.Coords) (arg1 : Memref sig .tc .vmem S3x3584x512 .i8) (harg1 : arg1.IsWhole) (arg2 : Memref sig .tc .vmem S3x512 .f32) (harg2 : arg2.IsWhole) (arg3 : Memref sig .tc .vmem S3584x256 .bf16) (harg3 : arg3.IsWhole) (arg4 : Memref sig .tc .vmem S3x128x512 .i8) (harg4 : arg4.IsWhole) (arg5 : Memref sig .tc .vmem S3x28x512 .bf16) (harg5 : arg5.IsWhole) (arg6 : Memref sig .tc .vmem S3x3584x512 .bf16) (harg6 : arg6.IsWhole) (arg7 : Memref sig .tc .vmem S3x28x512 .f32) (harg7 : arg7.IsWhole) (hc0 : ¬cond0_0 i) (hc1 : ¬cond0_1 i)
    (x0 : Vec F S3x3584x512 .i8) (x1 : Vec F S3x512 .f32) (x2 : Vec F S3584x256 .bf16) (x4 : Vec F S3x28x512 .bf16) (xs0 : Vec F S3x3584x512 .bf16) (xs1 : Vec F S3x28x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare (out3 (xs0) x1 x2) ∗ owns (c : Thread nD τ) arg5 fullShare x4 ∗ owns (c : Thread nD τ) arg6 fullShare (xs0) ∗ owns (c : Thread nD τ) arg7 fullShare (rows7 (i 0 : Fin 14).val (xs0) x1 x2 xs1)) -∗ K ⟨⟩))
      ⊢ wp frame (wpE (defs₀ (F := F)) Variants.none c none) E (cc0_r1_fold_int4 i arg1 harg1 arg2 harg2 arg3 harg3 arg4 harg4 arg5 harg5 arg6 harg6 arg7 harg7) K := by
  simp only [cc0_r1_fold_int4_eq_skeleton]; unfold cc0_r1_fold_int4_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg5.eq_unread hf4; obtain rfl := harg7.eq_unread hfs1; obtain rfl := harg6.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    delta run_B.sl.r run_B.sl.r_1 run_B.sl.r_2 run_B.sl.r_3 run_B.sl.r_4 run_B.sl.r_5 run_B.sl.r_6 run_B.sl.r_7 run_B.sl.r_8 run_B.sl.r_9 run_B.sl.r_10 run_B.sl.r_11 run_B.sl.r_12 run_B.sl.r_13 run_B.sl.r_14 run_B.sl.r_15 run_B.sl.r_16 run_B.sl.r_17 run_B.sl.r_18
    simp only [load_fac', load_wrow0, load_wrow1, load_wrow2, load_slab0, load_slab1, load_slab2, hf1, hf2, hfs0, pay_prod1, pay_prod2, pay_code0, pay_code1, pay_code2, pay_code3, pay_code4, pay_code5, pay_scl0, pay_scl1, pay_scl2, pay_scl3, pay_scl4, pay_scl5, fold_codeA, fold_codeB, fold_sclA, fold_sclB]
    exact read_codes xs0 x1 x2 arg4.view f3 _ _ _ _ _ _
  isplitl [H4]
  · iexists _; isplitr; · ipureintro; exact harg5.read_unread _
    iexact H4
  isplitl [HS0]
  · iexists _; isplitr; · ipureintro; exact harg6.read_unread _
    iexact HS0
  iexists _; isplitr; swap; · iexact HS1
  ipureintro
  delta run_B.sl.r run_B.sl.r_1 run_B.sl.r_2 run_B.sl.r_3 run_B.sl.r_4 run_B.sl.r_5 run_B.sl.r_6 run_B.sl.r_7 run_B.sl.r_8 run_B.sl.r_9 run_B.sl.r_10 run_B.sl.r_11 run_B.sl.r_12 run_B.sl.r_13 run_B.sl.r_14 run_B.sl.r_15 run_B.sl.r_16 run_B.sl.r_17 run_B.sl.r_18
  simp only [load_fac', load_wrow0, load_wrow1, load_wrow2, load_slab0, load_slab1, load_slab2, hf1, hf2, hfs0, pay_prod1, pay_prod2, pay_code0, pay_code1, pay_code2, pay_code3, pay_code4, pay_code5, pay_scl0, pay_scl1, pay_scl2, pay_scl3, pay_scl4, pay_scl5, fold_codeA, fold_codeB, fold_sclA, fold_sclB]
  exact (read_rows xs0 x1 x2 arg7.view _ (i 0 : Fin 14).val (off1_eq i 0) (off1_eq i 1) (off2_eq i 0) (off2_eq i 1) (off3_eq i 0) (off3_eq i 1) _ _ _ _ _ _).trans (by rw [hfs1])

end Cert.KernelIdeal.Body

end
-- ==== Proof.RunA.lean ====
/- The body at the first point, which also widens the codes. -/
module

public import proofs.«01_k».proof.Proof.RunB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the first point, which also widens the codes. The inputs' buffers are left as they were, the code block at `out3`, the scale scratch at `rows7` of what it
    held. -/
theorem run_A (c : Dev nD) (i : grid0.Coords) (arg1 : Memref sig .tc .vmem S3x3584x512 .i8) (harg1 : arg1.IsWhole) (arg2 : Memref sig .tc .vmem S3x512 .f32) (harg2 : arg2.IsWhole) (arg3 : Memref sig .tc .vmem S3584x256 .bf16) (harg3 : arg3.IsWhole) (arg4 : Memref sig .tc .vmem S3x128x512 .i8) (harg4 : arg4.IsWhole) (arg5 : Memref sig .tc .vmem S3x28x512 .bf16) (harg5 : arg5.IsWhole) (arg6 : Memref sig .tc .vmem S3x3584x512 .bf16) (harg6 : arg6.IsWhole) (arg7 : Memref sig .tc .vmem S3x28x512 .f32) (harg7 : arg7.IsWhole) (hc0 : cond0_0 i) (hc1 : ¬cond0_1 i)
    (x0 : Vec F S3x3584x512 .i8) (x1 : Vec F S3x512 .f32) (x2 : Vec F S3584x256 .bf16) (x4 : Vec F S3x28x512 .bf16) (xs1 : Vec F S3x28x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ (∃ d, owns (c : Thread nD τ) arg6 fullShare d) ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare (out3 (k0_pay3 x0) x1 x2) ∗ owns (c : Thread nD τ) arg5 fullShare x4 ∗ owns (c : Thread nD τ) arg6 fullShare (k0_pay3 x0) ∗ owns (c : Thread nD τ) arg7 fullShare (rows7 (i 0 : Fin 14).val (k0_pay3 x0) x1 x2 xs1)) -∗ K ⟨⟩))
      ⊢ wp frame (wpE (defs₀ (F := F)) Variants.none c none) E (cc0_r1_fold_int4 i arg1 harg1 arg2 harg2 arg3 harg3 arg4 harg4 arg5 harg5 arg6 harg6 arg7 harg7) K := by
  simp only [cc0_r1_fold_int4_eq_skeleton]; unfold cc0_r1_fold_int4_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg5.eq_unread hf4; obtain rfl := harg7.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11 run_A.sl.r_12 run_A.sl.r_13 run_A.sl.r_14 run_A.sl.r_15 run_A.sl.r_16 run_A.sl.r_17 run_A.sl.r_18 run_A.sl.v4 run_A.sl.v98 run_A.sl.v192 run_A.sl.HS0_1
    simp only [View.readCov, load_fac', load_wrow0, load_wrow1, load_wrow2, load_slab0, load_slab1, load_slab2, read_whole_codes, load_codes', hf0, hf1, hf2, pay_prod1, pay_prod2, pay_code0, pay_code1, pay_code2, pay_code3, pay_code4, pay_code5, pay_scl0, pay_scl1, pay_scl2, pay_scl3, pay_scl4, pay_scl5, fold_codeA, fold_codeB, fold_sclA, fold_sclB]
    exact read_codes (k0_pay3 x0) x1 x2 arg4.view f3 _ _ _ _ _ _
  isplitl [H4]
  · iexists _; isplitr; · ipureintro; exact harg5.read_unread _
    iexact H4
  isplitl [HS0]
  · iexists _; isplitr; swap; · iexact HS0
    ipureintro
    delta run_A.sl.HS0_1
    simp only [read_whole_codes, load_codes', hf0]
  iexists _; isplitr; swap; · iexact HS1
  ipureintro
  delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11 run_A.sl.r_12 run_A.sl.r_13 run_A.sl.r_14 run_A.sl.r_15 run_A.sl.r_16 run_A.sl.r_17 run_A.sl.r_18 run_A.sl.v4 run_A.sl.v98 run_A.sl.v192 run_A.sl.HS0_1
  simp only [View.readCov, load_fac', load_wrow0, load_wrow1, load_wrow2, load_slab0, load_slab1, load_slab2, read_whole_codes, load_codes', hf0, hf1, hf2, pay_prod1, pay_prod2, pay_code0, pay_code1, pay_code2, pay_code3, pay_code4, pay_code5, pay_scl0, pay_scl1, pay_scl2, pay_scl3, pay_scl4, pay_scl5, fold_codeA, fold_codeB, fold_sclA, fold_sclB]
  exact (read_rows (k0_pay3 x0) x1 x2 arg7.view _ (i 0 : Fin 14).val (off1_eq i 0) (off1_eq i 1) (off2_eq i 0) (off2_eq i 1) (off3_eq i 0) (off3_eq i 1) _ _ _ _ _ _).trans (by rw [hfs1])

end Cert.KernelIdeal.Body

end
-- ==== Proof.RunC.lean ====
/- The body at the last point, which also stores the scales. -/
module

public import proofs.«01_k».proof.Proof.RunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the last point, which also stores the scales. The inputs' buffers are left as they were, the code block at `out3`, the scale scratch at `rows7` of what it
    held. -/
theorem run_C (c : Dev nD) (i : grid0.Coords) (arg1 : Memref sig .tc .vmem S3x3584x512 .i8) (harg1 : arg1.IsWhole) (arg2 : Memref sig .tc .vmem S3x512 .f32) (harg2 : arg2.IsWhole) (arg3 : Memref sig .tc .vmem S3584x256 .bf16) (harg3 : arg3.IsWhole) (arg4 : Memref sig .tc .vmem S3x128x512 .i8) (harg4 : arg4.IsWhole) (arg5 : Memref sig .tc .vmem S3x28x512 .bf16) (harg5 : arg5.IsWhole) (arg6 : Memref sig .tc .vmem S3x3584x512 .bf16) (harg6 : arg6.IsWhole) (arg7 : Memref sig .tc .vmem S3x28x512 .f32) (harg7 : arg7.IsWhole) (hc0 : ¬cond0_0 i) (hc1 : cond0_1 i)
    (x0 : Vec F S3x3584x512 .i8) (x1 : Vec F S3x512 .f32) (x2 : Vec F S3584x256 .bf16) (x4 : Vec F S3x28x512 .bf16) (xs0 : Vec F S3x3584x512 .bf16) (xs1 : Vec F S3x28x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare (out3 (xs0) x1 x2) ∗ owns (c : Thread nD τ) arg5 fullShare (k0_pay2 (rows7 (i 0 : Fin 14).val xs0 x1 x2 xs1)) ∗ owns (c : Thread nD τ) arg6 fullShare (xs0) ∗ owns (c : Thread nD τ) arg7 fullShare (rows7 (i 0 : Fin 14).val (xs0) x1 x2 xs1)) -∗ K ⟨⟩))
      ⊢ wp frame (wpE (defs₀ (F := F)) Variants.none c none) E (cc0_r1_fold_int4 i arg1 harg1 arg2 harg2 arg3 harg3 arg4 harg4 arg5 harg5 arg6 harg6 arg7 harg7) K := by
  simp only [cc0_r1_fold_int4_eq_skeleton]; unfold cc0_r1_fold_int4_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg5.eq_unread hf4; obtain rfl := harg7.eq_unread hfs1; obtain rfl := harg6.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    delta run_C.sl.r run_C.sl.r_1 run_C.sl.r_2 run_C.sl.r_3 run_C.sl.r_4 run_C.sl.r_5 run_C.sl.r_6 run_C.sl.r_7 run_C.sl.r_8 run_C.sl.r_9 run_C.sl.r_10 run_C.sl.r_11 run_C.sl.r_12 run_C.sl.r_13 run_C.sl.r_14 run_C.sl.r_15 run_C.sl.r_16 run_C.sl.r_17 run_C.sl.r_18
    simp only [load_fac', load_wrow0, load_wrow1, load_wrow2, load_slab0, load_slab1, load_slab2, hf1, hf2, hfs0, pay_prod1, pay_prod2, pay_code0, pay_code1, pay_code2, pay_code3, pay_code4, pay_code5, pay_scl0, pay_scl1, pay_scl2, pay_scl3, pay_scl4, pay_scl5, fold_codeA, fold_codeB, fold_sclA, fold_sclB]
    exact read_codes xs0 x1 x2 arg4.view f3 _ _ _ _ _ _
  isplitl [H4]
  · iexists _; isplitr; swap; · iexact H4
    ipureintro
    rw [read_whole_bf16]
    delta run_C.sl.v289
    delta run_C.sl.HS1_6 run_C.sl.r run_C.sl.r_1 run_C.sl.r_2 run_C.sl.r_3 run_C.sl.r_4 run_C.sl.r_5 run_C.sl.r_6 run_C.sl.r_7 run_C.sl.r_8 run_C.sl.r_9 run_C.sl.r_10 run_C.sl.r_11 run_C.sl.r_12 run_C.sl.r_13 run_C.sl.r_14 run_C.sl.r_15 run_C.sl.r_16 run_C.sl.r_17 run_C.sl.r_18
    simp only [load_rows', load_fac', load_wrow0, load_wrow1, load_wrow2, load_slab0, load_slab1, load_slab2, hf1, hf2, hfs0, pay_prod1, pay_prod2, pay_code0, pay_code1, pay_code2, pay_code3, pay_code4, pay_code5, pay_scl0, pay_scl1, pay_scl2, pay_scl3, pay_scl4, pay_scl5, fold_codeA, fold_codeB, fold_sclA, fold_sclB]
    refine congrArg k0_pay2 ?_
    exact (read_rows xs0 x1 x2 arg7.view _ (i 0 : Fin 14).val (off1_eq i 0) (off1_eq i 1) (off2_eq i 0) (off2_eq i 1) (off3_eq i 0) (off3_eq i 1) _ _ _ _ _ _).trans (by rw [hfs1])
  isplitl [HS0]
  · iexists _; isplitr; · ipureintro; exact harg6.read_unread _
    iexact HS0
  iexists _; isplitr; swap; · iexact HS1
  ipureintro
  delta run_C.sl.HS1_6 run_C.sl.r run_C.sl.r_1 run_C.sl.r_2 run_C.sl.r_3 run_C.sl.r_4 run_C.sl.r_5 run_C.sl.r_6 run_C.sl.r_7 run_C.sl.r_8 run_C.sl.r_9 run_C.sl.r_10 run_C.sl.r_11 run_C.sl.r_12 run_C.sl.r_13 run_C.sl.r_14 run_C.sl.r_15 run_C.sl.r_16 run_C.sl.r_17 run_C.sl.r_18
  simp only [load_fac', load_wrow0, load_wrow1, load_wrow2, load_slab0, load_slab1, load_slab2, hf1, hf2, hfs0, pay_prod1, pay_prod2, pay_code0, pay_code1, pay_code2, pay_code3, pay_code4, pay_code5, pay_scl0, pay_scl1, pay_scl2, pay_scl3, pay_scl4, pay_scl5, fold_codeA, fold_codeB, fold_sclA, fold_sclB]
  exact (read_rows xs0 x1 x2 arg7.view _ (i 0 : Fin 14).val (off1_eq i 0) (off1_eq i 1) (off2_eq i 0) (off2_eq i 1) (off3_eq i 0) (off3_eq i 1) _ _ _ _ _ _).trans (by rw [hfs1])

end Cert.KernelIdeal.Body

end
-- ==== Proof.Data.lean ====
/- The proof data of the kernel's pipeline — what every staging buffer and both scratch buffers hold point by point — its
   body obligation, the run, and the frame. -/
module

public import proofs.«01_k».proof.Proof.RunC
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def tz : Fin cfg0.N := ⟨0, by rw [show cfg0.N = 14 from N_0]; decide⟩

/-- The widened codes, as the first point leaves them in the scratch buffer for all points. -/
def xw (c : Dev nD) : Vec F S3x3584x512 .bf16 := k0_pay3 (iblk m c 0 tz)

/-- The grid point that computes scale row `r`: the point `r / 2`. -/
def ptOf (r : Fin 28) : Fin cfg0.N := ⟨r.val / 2, by rw [show cfg0.N = 14 from N_0]; have := r.isLt; omega⟩

/-- The scale of batch `b`'s group `r` at column `l`, as a 32-bit float: group `r % 2` of the product at point `r / 2`. -/
def scales (c : Dev nD) : Vec F S3x28x512 .f32 := fun y =>
  scl (grp ((y 1 : Fin 28).val % 2) (prod (xw m c) (iblk m c 1 (ptOf (y 1))) (iblk m c 2 (ptOf (y 1))) (y 0))) (ix3 (0 : Fin 1) (0 : Fin 1) (y 2 : Fin 512))

/-- The coordinate of a point is its number. -/
theorem coord_val (t : Fin cfg0.N) : (grid0.coords t 0 : Fin 14).val = t.val := by
  have ht : t.val < 14 := Nat.lt_of_lt_of_eq t.isLt N_0
  have e0 : (grid0.coords t 0).val = t.val / 1 % 14 := Pipeline.Grid.coords_val t 0 (by decide) rfl
  omega

/-- If the rows stored before point `t` are the scales', so are the rows stored once it is through. -/
theorem rows_step (c : Dev nD) (t : Fin cfg0.N) (S : Vec F S3x28x512 .f32)
    (hS : ∀ y : S3x28x512.Idx, (y 1 : Fin 28).val < 2 * t.val → S y = scales m c y) (y : S3x28x512.Idx)
    (hy : (y 1 : Fin 28).val < 2 * (t.val + 1)) :
    rows7 (grid0.coords t 0 : Fin 14).val (xw m c) (iblk m c 1 t) (iblk m c 2 t) S y = scales m c y := by
  unfold rows7
  rw [coord_val]
  by_cases h : (y 1 : Fin 28).val / 2 = t.val
  · rw [if_pos h]
    have e : ptOf (y 1) = t := Fin.ext h
    unfold scales
    rw [e]
  · rw [if_neg h]
    exact hS y (by omega)

/-- The invariant before position `n`: at first every scratch buffer holds anything; afterwards the widened codes, and
    in the rows stored so far the scales. -/
def PhiS (c : Dev nD) : (n : ℕ) → n ≤ cfg0.N → sProp 𝕄
  | 0, _ => Pipeline.ΦA spec0 c
  | n + 1, _ => iprop(iprop(owns (c : Thread nD τ) scM0_0 fullShare (xw m c) ∗ (∃ S, ⌜∀ y : S3x28x512.Idx, (y 1 : Fin 28).val < 2 * (n + 1) → S y = scales m c y⌝ ∗ owns (c : Thread nD τ) scM0_1 fullShare S)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xw m c) ∗ (∃ S, ⌜∀ y : S3x28x512.Idx, (y 1 : Fin 28).val < 2 * (n + 1) → S y = scales m c y⌝ ∗ owns (c : Thread nD τ) scM0_1 fullShare S)) ∗ (∃ r, prngReg c r)) := rfl

theorem PhiS_pos (c : Dev nD) (n : ℕ) (h : n ≤ cfg0.N) (hz : n ≠ 0) :
    PhiS m c n h = iprop(iprop(owns (c : Thread nD τ) scM0_0 fullShare (xw m c) ∗ (∃ S, ⌜∀ y : S3x28x512.Idx, (y 1 : Fin 28).val < 2 * n → S y = scales m c y⌝ ∗ owns (c : Thread nD τ) scM0_1 fullShare S)) ∗ (∃ r, prngReg c r)) := by
  cases n with
  | zero => exact absurd rfl hz
  | succ n => rfl

/-- The proof data of the pipeline on core `c`: the arrays as the region finds them; after the body at point `t` each
    input's buffer at its block, the code block at its codes, and the scales' block (stored at the last point, idle
    before) at the scales rounded to bf16. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (xw m c) (iblk m c 1 t) (iblk m c 2 t)
    | ⟨4, _⟩ => k0_pay2 (scales m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 (xw m c) (iblk m c 1 t) (iblk m c 2 t) := by dsimp only [dats]
theorem after0_4 (c : Dev nD) (t : Fin cfg0.N) : (dats m 0 c).after 4 t = k0_pay2 (scales m c) := by dsimp only [dats]

/-! Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Window 4 is written back at the last point only. -/
theorem flush4 : ∀ t : Fin cfg0.N, ¬t.val % 14 = 13 → (cfg0.win 4).flush t = false :=
  (by decide +kernel : ∀ t : Fin grid0.N, ¬t.val % 14 = 13 → win0_4.flush t = false)

/-- Before the last point window 4's buffer is handed back as it was found. -/
theorem leaves4_idle (c : Dev nD) (t : Fin cfg0.N) (h1 : ¬t.val % 14 = 13) :
    (dats m 0 c).leavesExact 4 t = (iprop(∃ d, owns (c : Thread nD τ) (ms0_4 t) fullShare ((dats m 0 c).before 4 t d)) : sProp 𝕄) :=
  (dats m 0 c).leavesExact_idle 4 t (by
    have h : ¬ k0_cond2 (grid0.coords t) = 1#1 := fun e => h1 ((hcond0_1 t).mp e)
    show (!(k0_cond2 (grid0.coords t) == 1#1)) = true
    simpa using h) (flush4 t h1)

/-- At the last point it holds the scales. -/
theorem leaves4_last (c : Dev nD) (t : Fin cfg0.N) (h1 : t.val % 14 = 13) :
    (dats m 0 c).leavesExact 4 t = (owns (c : Thread nD τ) (ms0_4 t) fullShare ((dats m 0 c).after 4 t) : sProp 𝕄) := by
  have e : cfg0.idle 4 (cfg0.grid.coords t) = false := by
    have h : k0_cond2 (grid0.coords t) = 1#1 := (hcond0_1 t).mpr h1
    show (!(k0_cond2 (grid0.coords t) == 1#1)) = false
    simpa using h
  unfold Dat.leavesExact
  rw [e]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: first, last or between (`run_A`, `run_C`, `run_B`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 14 := lt_of_lt_of_eq t.isLt (show cfg0.N = 14 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 14 = 0
  · have h1 : ¬t.val % 14 = 13 := by omega
    have hz : t.val = 0 := by omega
    obtain rfl : t = tz := Fin.ext hz
    rw [PhiS_castSucc m c tz, PhiS_zero m c _ _ hz, PhiA0_eq, leaves4_idle m c tz h1]
    iintro ⟨⟨⟨HS0, ⟨%S, HS1⟩⟩, Hg⟩, Ho, ⟨%d0, H0⟩, ⟨%d1, H1⟩, ⟨%d2, H2⟩, ⟨%d3, H3⟩, ⟨%d4, H4⟩⟩
    iapply (run_A c (grid0.coords tz) _ _ _ _ _ _ _ _ _ _ _ _ _ _ ((hcond0_0 tz).mpr h0) (fun h => h1 ((hcond0_1 tz).mp h)) (iblk m c 0 tz) (iblk m c 1 tz) (iblk m c 2 tz) ((dats m 0 c).before 4 tz d4) S Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexists _; isplitr; swap; · iexact HS1
        ipureintro; exact rows_step m c tz S (fun y hy => absurd hy (by rw [hz]; exact Nat.not_lt_zero _))
      iexact Hg
    isplitl [Ho]; · iexact Ho
    isplitl [H0]; · iexact H0
    isplitl [H1]; · iexact H1
    isplitl [H2]; · iexact H2
    isplitl [H3]; · iexact H3
    iexists _; iexact H4
  have hz : t.val ≠ 0 := by omega
  by_cases h1 : t.val % 14 = 13
  · rw [PhiS_castSucc m c t, PhiS_pos m c _ _ hz, leaves4_last m c t h1, after0_4]
    iintro ⟨⟨⟨HS0, ⟨%S, %hS, HS1⟩⟩, Hg⟩, Ho, ⟨%d0, H0⟩, ⟨%d1, H1⟩, ⟨%d2, H2⟩, ⟨%d3, H3⟩, ⟨%d4, H4⟩⟩
    iapply (run_C c (grid0.coords t) _ _ _ _ _ _ _ _ _ _ _ _ _ _ (fun h => h0 ((hcond0_0 t).mp h)) ((hcond0_1 t).mpr h1) (iblk m c 0 t) (iblk m c 1 t) (iblk m c 2 t) ((dats m 0 c).before 4 t d4) (xw m c) S Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexists _; isplitr; swap; · iexact HS1
        ipureintro; exact rows_step m c t S (fun y hy => hS y (by omega))
      iexact Hg
    isplitl [Ho]; · iexact Ho
    isplitl [H0]; · iexact H0
    isplitl [H1]; · iexact H1
    isplitl [H2]; · iexact H2
    isplitl [H3]; · iexact H3
    rw [show scales m c = rows7 (grid0.coords t 0 : Fin 14).val (xw m c) (iblk m c 1 t) (iblk m c 2 t) S from
      funext fun y => (rows_step m c t S (fun y hy => hS y (by omega)) y (by have : (y 1 : Fin 28).val < 28 := (y 1 : Fin 28).isLt; omega)).symm]
    iexact H4
  · rw [PhiS_castSucc m c t, PhiS_pos m c _ _ hz, leaves4_idle m c t h1]
    iintro ⟨⟨⟨HS0, ⟨%S, %hS, HS1⟩⟩, Hg⟩, Ho, ⟨%d0, H0⟩, ⟨%d1, H1⟩, ⟨%d2, H2⟩, ⟨%d3, H3⟩, ⟨%d4, H4⟩⟩
    iapply (run_B c (grid0.coords t) _ _ _ _ _ _ _ _ _ _ _ _ _ _ (fun h => h0 ((hcond0_0 t).mp h)) (fun h => h1 ((hcond0_1 t).mp h)) (iblk m c 0 t) (iblk m c 1 t) (iblk m c 2 t) ((dats m 0 c).before 4 t d4) (xw m c) S Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexists _; isplitr; swap; · iexact HS1
        ipureintro; exact rows_step m c t S (fun y hy => hS y (by omega))
      iexact Hg
    isplitl [Ho]; · iexact Ho
    isplitl [H0]; · iexact H0
    isplitl [H1]; · iexact H1
    isplitl [H2]; · iexact H2
    isplitl [H3]; · iexact H3
    iexists _; iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- The invariant after the last point gives it back: what the scratch buffers hold is forgotten. -/
theorem hout (c : Dev nD) : (dats m 0 c).Φ (Fin.last cfg0.N) ⊢ Pipeline.ΦA spec0 c := by
  have ht : (Fin.last cfg0.N).val ≠ 0 := by rw [Fin.val_last]; have : cfg0.N = 14 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, ⟨%S, -, HS1⟩⟩, Hg⟩
  isplitl [HS0 HS1]
  · isplitl [HS0]
    · iexists _; iexact HS0
    iexists _; iexact HS1
  iexact Hg

/-! ## The run and the frame -/

set_option backward.isDefEq.respectTransparency.types false in
/-- The launch: every final state has the pipeline's arrays at what the points write back and everything else as the
    region found it, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame of the kernel: every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.Printed.lean ====
/- The frame of the printed kernel: its idealization is the same program text, so the two body tables are the same, and
   the frame proved for any float values holds of it at bit patterns. -/
module

public import proofs.«01_k».proof.Defs
public import proofs.«01_k».proof.Proof.Gen.Kernel
public import proofs.«01_k».proof.Proof.Data

@[expose] public section

set_option maxRecDepth 100000

noncomputable section

namespace Cert.Kernel.Body

open Idealize.ShloMosaic Idealize.SL.Sem

attribute [local instance] Cert.Kernel.Gen.facts Cert.KernelIdeal.Gen.facts

/-- The two programs' bodies run the same function at every point. -/
theorem bodies_eq : Cert.Kernel.defs₀ (F := Bits) = Cert.KernelIdeal.defs₀ (F := Bits) := by
  unfold Cert.Kernel.defs₀ Cert.KernelIdeal.defs₀
  refine congrArg _ (funext fun l => funext fun x => ?_)
  match l, x with
  | 0, (t, s) => rfl

/-- The two programs' body tables, with the pipeline's own entries, are the same. -/
theorem defs_eq : Cert.Kernel.defs (F := Bits) = Cert.KernelIdeal.defs (F := Bits) :=
  congrArg (Pipeline.defs (Cert.Kernel.pcfgs (F := Bits))) bodies_eq

/-- The printed kernel runs, its arguments end unchanged, every semaphore counter ends at zero. -/
theorem frame : Cert.quiescent_Kernel (hKernel := Cert.Kernel.Gen.facts) := by
  intro m ρ _
  rw [defs_eq]
  exact Cert.KernelIdeal.Body.frame (F := Bits) m ρ

end Cert.Kernel.Body

end
-- ==== Proof.Spec.lean ====
/- The fold and its quantiser as scalar formulas over extended reals: what both programs compute, element by element.
   `pr` is one element of the scaled product, `scaleOf` a group's scale from its greatest magnitude, `codeOf` an
   element's four-bit code, `byteOf` the byte that holds two successive rows' codes. -/
module

public import Idealize.ShloMosaic.Lib.Pointwise

@[expose] public section

set_option maxRecDepth 16384

noncomputable section

namespace Cert.Spec

open Idealize.ShloMosaic Idealize.ShloMosaic.TcCoe

/-- Element `(row, l)` of batch `b` of the product of the transposed square factor `R` with the codes `X`, times the
    weight scale of the column. -/
def pr (X : (⟨3, ![3, 3584, 512]⟩ : Shape).Idx → BitVec 8) (W : (⟨2, ![3, 512]⟩ : Shape).Idx → EReal)
    (R : (⟨2, ![3584, 3584]⟩ : Shape).Idx → EReal) (b : Fin 3) (row : Fin 3584) (l : Fin 512) : EReal :=
  (∑ j : Fin 3584, R (ix2 j row) * (((X (ix3 b j l)).toInt : ℝ) : EReal)) * W (ix2 b l)

/-- The greatest magnitude of a group of 128 values. -/
def amaxOf (f : Fin 128 → EReal) : EReal :=
  Finset.univ.fold max (Ideal.ofBits .f32 0xFF800000#32) fun k => FloatOps.absf (F := Ideal) (φ := .f32) (f k)

/-- A group's scale: a seventh of its greatest magnitude, one for a group of zeros. -/
def scaleOf (mx : EReal) : EReal := if mx = 0 then 1 else Ideal.div mx (Ideal.ofBits .f32 0x40E00000#32)

/-- An element's code at a scale: the quotient rounded to the nearest integer, clamped to `[-7, 7]`. -/
def codeOf (a s : EReal) : BitVec 32 :=
  FloatOps.fptosi (F := Ideal) (φ := .f32) 32 (min (FloatOps.sitofp (F := Ideal) .f32 7#32)
    (max (FloatOps.sitofp (F := Ideal) .f32 4294967289#32) (Ideal.liftRound Ideal.roundHalfEven (Ideal.div a s))))

/-- The byte of two codes, the first in its low half. -/
def byteOf (z0 z1 : BitVec 32) : BitVec 8 :=
  BitVec.setWidth 8 (IntOp.ori (IntOp.andi (BitVec.signExtend 32 (BitVec.setWidth 8 z0)) 15#32)
    (IntOp.shli ArithUnit.host (IntOp.andi (BitVec.signExtend 32 (BitVec.setWidth 8 z1)) 15#32) 4#32))

/-- The scale of batch `b`'s group `g` (rows `128 g` to `128 g + 127` of the product) at column `l`. -/
def scale (X : (⟨3, ![3, 3584, 512]⟩ : Shape).Idx → BitVec 8) (W : (⟨2, ![3, 512]⟩ : Shape).Idx → EReal)
    (R : (⟨2, ![3584, 3584]⟩ : Shape).Idx → EReal) (b : Fin 3) (g : Fin 28) (l : Fin 512) : EReal :=
  scaleOf (amaxOf fun k => pr X W R b ⟨128 * g.val + k.val, by omega⟩ l)

/-- The byte of the codes of rows `2 r` and `2 r + 1`, both in group `r / 64`. -/
def byte (X : (⟨3, ![3, 3584, 512]⟩ : Shape).Idx → BitVec 8) (W : (⟨2, ![3, 512]⟩ : Shape).Idx → EReal)
    (R : (⟨2, ![3584, 3584]⟩ : Shape).Idx → EReal) (b : Fin 3) (r : Fin 1792) (l : Fin 512) : BitVec 8 :=
  byteOf (codeOf (pr X W R b ⟨2 * r.val, by omega⟩ l) (scale X W R b ⟨r.val / 64, by omega⟩ l))
    (codeOf (pr X W R b ⟨2 * r.val + 1, by omega⟩ l) (scale X W R b ⟨r.val / 64, by omega⟩ l))

/-- The same byte from the two codes cut to four bits, widened to 16 and put side by side in a word. -/
theorem byte_of_pair (z0 z1 : BitVec 32) (w : BitVec 32)
    (hw : w = BitVec.signExtend 16 (BitVec.setWidth 4 z1) ++ BitVec.signExtend 16 (BitVec.setWidth 4 z0)) :
    BitVec.setWidth 8 (IntOp.ori (IntOp.andi w 15#32)
      (IntOp.shli ArithUnit.vector (IntOp.andi (IntOp.shrsi ArithUnit.vector w 16#32) 15#32) 4#32)) = byteOf z0 z1 := by
  have low : ∀ i, i < 4 → w.getLsbD i = z0.getLsbD i := fun i hi => by
    rw [hw]
    refine (BitVec.getLsbD_append (x := BitVec.signExtend 16 (BitVec.setWidth 4 z1)) (y := BitVec.signExtend 16 (BitVec.setWidth 4 z0)) (i := i)).trans ?_
    rw [if_pos (by omega), BitVec.getLsbD_signExtend, if_pos hi, BitVec.getLsbD_setWidth]
    simp [hi, show i < 16 by omega]
  have high : ∀ i, i < 4 → w.getLsbD (16 + i) = z1.getLsbD i := fun i hi => by
    rw [hw]
    refine (BitVec.getLsbD_append (x := BitVec.signExtend 16 (BitVec.setWidth 4 z1)) (y := BitVec.signExtend 16 (BitVec.setWidth 4 z0)) (i := 16 + i)).trans ?_
    rw [if_neg (by omega), show 16 + i - 16 = i by omega, BitVec.getLsbD_signExtend, if_pos hi, BitVec.getLsbD_setWidth]
    simp [hi, show i < 16 by omega]
  have wide : ∀ (z : BitVec 32) i, i < 4 → (BitVec.signExtend 32 (BitVec.setWidth 8 z)).getLsbD i = z.getLsbD i := fun z i hi => by
    rw [BitVec.getLsbD_signExtend, if_pos (by omega), BitVec.getLsbD_setWidth]
    simp [show i < 8 by omega, show i < 32 by omega]
  have shifted : ∀ i, i < 4 → (w.sshiftRight 16).getLsbD i = z1.getLsbD i := fun i hi => by
    rw [BitVec.getLsbD_sshiftRight, if_pos (by omega), high i hi]
    simp [show ¬ 32 ≤ i by omega]
  clear hw
  unfold byteOf
  simp only [IntOp.ori, IntOp.andi, IntOp.shli, IntOp.shrsi]
  rw [if_pos (by decide), if_pos (by decide), if_pos (by decide)]
  have key : ∀ x y x' y' : BitVec 32, (∀ i, i < 4 → x.getLsbD i = x'.getLsbD i) → (∀ i, i < 4 → y.getLsbD i = y'.getLsbD i) →
      BitVec.setWidth 8 (x &&& 15#32 ||| (y &&& 15#32) <<< (4#32)) = BitVec.setWidth 8 (x' &&& 15#32 ||| (y' &&& 15#32) <<< (4#32)) := by
    intro x y x' y' hx hy
    have mask : ∀ u v : BitVec 32, (∀ i, i < 4 → u.getLsbD i = v.getLsbD i) → u &&& 15#32 = v &&& 15#32 := fun u v h => by
      apply BitVec.eq_of_getLsbD_eq
      intro i hi
      rw [BitVec.getLsbD_and, BitVec.getLsbD_and]
      by_cases h4 : i < 4
      · rw [h i h4]
      · have : (15#32).getLsbD i = false := by
          have : ∀ k : Fin 32, ¬ k.val < 4 → (15#32).getLsbD k.val = false := by decide
          exact this ⟨i, hi⟩ h4
        rw [this, Bool.and_false, Bool.and_false]
    rw [mask x x' hx, mask y y' hy]
  exact key _ _ _ _ (fun i hi => (low i hi).trans (wide z0 i hi).symm) (fun i hi => (shifted i hi).trans (wide z1 i hi).symm)

/-- A left fold of maxima is at most `c` exactly if its start and every element are. -/
theorem foldl_max_le {α : Type} (f : α → EReal) (c : EReal) (L : List α) (init : EReal) :
    L.foldl (fun r n => max r (f n)) init ≤ c ↔ init ≤ c ∧ ∀ n ∈ L, f n ≤ c := by
  induction L generalizing init with
  | nil => simp
  | cons a L ih =>
    rw [List.foldl_cons, ih, max_le_iff]
    simp only [List.mem_cons, forall_eq_or_imp]
    exact and_assoc

end Cert.Spec

end
-- ==== Proof.PureReference.lean ====
/- The reference's composed term in stages, each read at an element as the scalar formulas of `Cert.Spec`. -/
module

public import proofs.«01_k».proof.Proof.Gen.ReferenceIdeal.Run
public import proofs.«01_k».proof.Proof.Spec

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The scaled product, its rows as (parity, batch, group, pair). -/
def refProd (X : IVec S3x3584x512 8) (W : FVec Ideal S3x512 .f32) (R : FVec Ideal S3584x3584 .bf16) : FVec Ideal S2x3x28x64x512 .f32 :=
  shapeCast _ (mulf (transpose S2x3x1792x512 [3, 0, 2, 1] (Host.dotGeneral dot_S3x3584x512_S3584x1792x2_S3x512x1792x2_1_0_02_12_n_n none (truncf .bf16 (sitofp (F := Ideal) .f32 (extsi 32 X natLt_8_32)) bitsLt_bf16_f32) (shapeCast _ R shapeCasts_S3584x3584_S3584x1792x2)) transposes_S3x512x1792x2_S2x3x1792x512_3_0_2_1) (broadcastInDim S2x3x1792x512 ![0, 1, 2, 3] bcast_S1x3x1x512_S2x3x1792x512_0_1_2_3 (broadcastInDim S1x3x1x512 ![1, 3] bcast_S3x512_S1x3x1x512_1_3 W))) shapeCasts_S2x3x1792x512_S2x3x28x64x512

/-- Each group's greatest magnitude. -/
def refAmax (a : FVec Ideal S2x3x28x64x512 .f32) : FVec Ideal S3x28x512 .f32 :=
  Host.reduce FloatOps.maximumf (Host.absf a) (constant S_ .f32 0xFF800000#32) reducesTo_S2x3x28x64x512_S3x28x512_d0_3 h_S_

/-- The scales. -/
def refScale (mx : FVec Ideal S3x28x512 .f32) : FVec Ideal S3x28x512 .bf16 :=
  truncf .bf16 (select (cmpf .oeq mx (broadcastInDim S3x28x512 ![] bcast_S_S3x28x512 (constant S_ .f32 0x00000000#32))) (broadcastInDim S3x28x512 ![] bcast_S_S3x28x512 (id (constant S_ .f32 0x3F800000#32))) (Host.divf mx (broadcastInDim S3x28x512 ![] bcast_S_S3x28x512 (constant S_ .f32 0x40E00000#32)))) bitsLt_bf16_f32

/-- The codes, unpacked. -/
def refCode (a : FVec Ideal S2x3x28x64x512 .f32) (s : FVec Ideal S3x28x512 .bf16) : IVec S2x3x28x64x512 32 :=
  fptosi 32 (minimumf (broadcastInDim S2x3x28x64x512 ![] bcast_S_S2x3x28x64x512 (sitofp .f32 (constantI S_ 32 7#32))) (maximumf (broadcastInDim S2x3x28x64x512 ![] bcast_S_S2x3x28x64x512 (sitofp .f32 (constantI S_ 32 4294967289#32))) (Host.roundeven (Host.divf a (broadcastInDim S2x3x28x64x512 ![0, 1, 2, 3, 4] bcast_S1x3x28x1x512_S2x3x28x64x512_0_1_2_3_4 (broadcastInDim S1x3x28x1x512 ![1, 2, 4] bcast_S3x28x512_S1x3x28x1x512_1_2_4 (extf .f32 s bitsLt_bf16_f32)))))))

/-- The packed codes. -/
def refPack (q : IVec S2x3x28x64x512 32) : IVec S3x1792x512 8 :=
  trunci 8 (ori (andi (extsi 32 (shapeCast _ (extractStridedSlice S1x3x1792x512 ![0, 0, 0, 0] (shapeCast _ (trunci 8 q natLt_8_32) shapeCasts_S2x3x28x64x512_S2x3x1792x512) slices_S2x3x1792x512_S1x3x1792x512_0_0_0_0) shapeCasts_S1x3x1792x512_S3x1792x512) natLt_8_32) (broadcastInDim S3x1792x512 ![] bcast_S_S3x1792x512 (constantI S_ 32 15#32)))
    (Host.shli (andi (extsi 32 (shapeCast _ (extractStridedSlice S1x3x1792x512 ![1, 0, 0, 0] (shapeCast _ (trunci 8 q natLt_8_32) shapeCasts_S2x3x28x64x512_S2x3x1792x512) slices_S2x3x1792x512_S1x3x1792x512_1_0_0_0) shapeCasts_S1x3x1792x512_S3x1792x512) natLt_8_32) (broadcastInDim S3x1792x512 ![] bcast_S_S3x1792x512 (constantI S_ 32 15#32))) (broadcastInDim S3x1792x512 ![] bcast_S_S3x1792x512 (constantI S_ 32 4#32)))) natLt_8_32

theorem refProd_at (X : IVec S3x3584x512 8) (W : FVec Ideal S3x512 .f32) (R : FVec Ideal S3584x3584 .bf16) (p : Fin 2) (b : Fin 3) (g : Fin 28) (h : Fin 64) (l : Fin 512) :
    refProd X W R (ix5 p b g h l) = Spec.pr X W R b (⟨(g.val * 64 + h.val) * 2 + p.val, by omega⟩ : Fin 3584) l := by
  pointwise [refProd]
  unfold Spec.pr
  refine congrArg (· * W (ix2 b l)) (Finset.sum_congr rfl fun j _ => ?_)
  rw [mul_comm]
  refine congrArg (R (ix2 j _) * ·) ?_
  show (((BitVec.signExtend 32 (X (ix3 b j l))).toInt : ℝ) : EReal) = _
  rw [BitVec.toInt_signExtend_of_le (by decide)]

/-- A group's greatest magnitude, from its values listed by row. -/
theorem refAmax_at (a : FVec Ideal S2x3x28x64x512 .f32) (b : Fin 3) (g : Fin 28) (l : Fin 512) (f : Fin 128 → EReal)
    (hf : ∀ (p : Fin 2) (h : Fin 64), a (ix5 p b g h l) = f ⟨2 * h.val + p.val, by omega⟩) :
    refAmax a (ix3 b g l) = Spec.amaxOf f := by
  refine eq_of_forall_ge_iff fun c => ?_
  refine (Spec.foldl_max_le (fun n => FloatOps.absf (F := Ideal) (φ := .f32) (a (S2x3x28x64x512.rowMajor.symm n))) c _ _).trans ?_
  unfold Spec.amaxOf
  rw [Finset.fold_max_le]
  refine and_congr Iff.rfl ⟨fun H k _ => ?_, fun H n hn => ?_⟩
  · have e := hf ⟨k.val % 2, by omega⟩ ⟨k.val / 2, by omega⟩
    rw [show (⟨2 * (k.val / 2) + k.val % 2, by omega⟩ : Fin 128) = k from Fin.ext (by show 2 * (k.val / 2) + k.val % 2 = k.val; omega)] at e
    rw [← e]
    have := H (S2x3x28x64x512.rowMajor (ix5 ⟨k.val % 2, by omega⟩ b g ⟨k.val / 2, by omega⟩ l))
      (List.mem_filter.mpr ⟨List.mem_finRange _, decide_eq_true (by
        rw [Equiv.symm_apply_apply]
        funext d
        match d with
        | ⟨0, _⟩ => exact Fin.ext (Shape.ReducesTo.drop_apply_val_of_eq reducesTo_S2x3x28x64x512_S3x28x512_d0_3 (ix5 (⟨k.val % 2, by omega⟩ : Fin 2) b g (⟨k.val / 2, by omega⟩ : Fin 64) l) 0 1 (by decide) (by decide))
        | ⟨1, _⟩ => exact Fin.ext (Shape.ReducesTo.drop_apply_val_of_eq reducesTo_S2x3x28x64x512_S3x28x512_d0_3 (ix5 (⟨k.val % 2, by omega⟩ : Fin 2) b g (⟨k.val / 2, by omega⟩ : Fin 64) l) 1 2 (by decide) (by decide))
        | ⟨2, _⟩ => exact Fin.ext (Shape.ReducesTo.drop_apply_val_of_eq reducesTo_S2x3x28x64x512_S3x28x512_d0_3 (ix5 (⟨k.val % 2, by omega⟩ : Fin 2) b g (⟨k.val / 2, by omega⟩ : Fin 64) l) 2 4 (by decide) (by decide)))⟩)
    rw [Equiv.symm_apply_apply] at this
    exact this
  · have hd := of_decide_eq_true (List.mem_filter.mp hn).2
    generalize S2x3x28x64x512.rowMajor.symm n = i at hd ⊢
    have h1 : (i 1 : Fin 3) = b := Fin.ext ((Shape.ReducesTo.drop_apply_val_of_eq reducesTo_S2x3x28x64x512_S3x28x512_d0_3 i 0 1 (by decide) (by decide)).symm.trans (congrArg (fun j : S3x28x512.Idx => (j 0).val) hd))
    have h2 : (i 2 : Fin 28) = g := Fin.ext ((Shape.ReducesTo.drop_apply_val_of_eq reducesTo_S2x3x28x64x512_S3x28x512_d0_3 i 1 2 (by decide) (by decide)).symm.trans (congrArg (fun j : S3x28x512.Idx => (j 1).val) hd))
    have h4 : (i 4 : Fin 512) = l := Fin.ext ((Shape.ReducesTo.drop_apply_val_of_eq reducesTo_S2x3x28x64x512_S3x28x512_d0_3 i 2 4 (by decide) (by decide)).symm.trans (congrArg (fun j : S3x28x512.Idx => (j 2).val) hd))
    have ei : i = ix5 (i 0 : Fin 2) b g (i 3 : Fin 64) l := by rw [← h1, ← h2, ← h4]; exact eq_ix5 i
    have e : a i = f ⟨2 * (i 3 : Fin 64).val + (i 0 : Fin 2).val, (by have h3 : (i 3 : Fin 64).val < 64 := (i 3 : Fin 64).isLt; have h0 : (i 0 : Fin 2).val < 2 := (i 0 : Fin 2).isLt; exact (by omega : ∀ a b : ℕ, a < 64 → b < 2 → 2 * a + b < 128) _ _ h3 h0)⟩ :=
      (congrArg a ei).trans (hf _ _)
    show FloatOps.absf (F := Ideal) (φ := .f32) (a i) ≤ c
    rw [e]
    exact H _ (Finset.mem_univ _)

theorem refScale_at (mx : FVec Ideal S3x28x512 .f32) (b : Fin 3) (g : Fin 28) (l : Fin 512) :
    refScale mx (ix3 b g l) = Spec.scaleOf (mx (ix3 b g l)) := by
  pointwise [refScale]
  rw [show id (constant (F := Ideal) S_ .f32 0x3F800000#32) ix0 = (1 : EReal) from by show (constant (F := Ideal) S_ .f32 0x3F800000#32) ix0 = (1 : EReal); pointwise []]
  rfl

theorem refCode_at (a : FVec Ideal S2x3x28x64x512 .f32) (s : FVec Ideal S3x28x512 .bf16) (p : Fin 2) (b : Fin 3) (g : Fin 28) (h : Fin 64) (l : Fin 512) :
    refCode a s (ix5 p b g h l) = Spec.codeOf (a (ix5 p b g h l)) (s (ix3 b g l)) := by
  pointwise [refCode]
  rfl

theorem refPack_at (q : IVec S2x3x28x64x512 32) (b : Fin 3) (r : Fin 1792) (l : Fin 512) :
    refPack q (ix3 b r l) = Spec.byteOf (q (ix5 0 b (⟨r.val / 64, by omega⟩ : Fin 28) (⟨r.val % 64, by omega⟩ : Fin 64) l))
      (q (ix5 1 b (⟨r.val / 64, by omega⟩ : Fin 28) (⟨r.val % 64, by omega⟩ : Fin 64) l)) := by
  pointwise [refPack]
  rfl

/-- The reference's scales at an element. -/
theorem ref_scale (X : IVec S3x3584x512 8) (W : FVec Ideal S3x512 .f32) (R : FVec Ideal S3584x3584 .bf16) (b : Fin 3) (g : Fin 28) (l : Fin 512) :
    refScale (refAmax (refProd X W R)) (ix3 b g l) = Spec.scale X W R b g l := by
  rw [refScale_at]
  refine congrArg Spec.scaleOf (refAmax_at _ b g l _ fun p h => ?_)
  rw [refProd_at]
  exact congrArg (fun row => Spec.pr X W R b row l) (Fin.ext (by show (g.val * 64 + h.val) * 2 + p.val = 128 * g.val + (2 * h.val + p.val); omega))

/-- The reference's packed codes at an element. -/
theorem ref_byte (X : IVec S3x3584x512 8) (W : FVec Ideal S3x512 .f32) (R : FVec Ideal S3584x3584 .bf16) (b : Fin 3) (r : Fin 1792) (l : Fin 512) :
    refPack (refCode (refProd X W R) (refScale (refAmax (refProd X W R)))) (ix3 b r l) = Spec.byte X W R b r l := by
  rw [refPack_at, refCode_at, refCode_at, ref_scale, refProd_at, refProd_at]
  have e0 : (⟨((⟨r.val / 64, by omega⟩ : Fin 28).val * 64 + (⟨r.val % 64, by omega⟩ : Fin 64).val) * 2 + (0 : Fin 2).val, by omega⟩ : Fin 3584) = ⟨2 * r.val, by omega⟩ :=
    Fin.ext (by show (r.val / 64 * 64 + r.val % 64) * 2 + 0 = 2 * r.val; omega)
  have e1 : (⟨((⟨r.val / 64, by omega⟩ : Fin 28).val * 64 + (⟨r.val % 64, by omega⟩ : Fin 64).val) * 2 + (1 : Fin 2).val, by omega⟩ : Fin 3584) = ⟨2 * r.val + 1, by omega⟩ :=
    Fin.ext (by show (r.val / 64 * 64 + r.val % 64) * 2 + 1 = 2 * r.val + 1; omega)
  rw [e0, e1]
  rfl

/-- The packed codes the run ends at, as the stages' composition. -/
theorem res_codes (m : (ℓ : Loc nD τ sig) → Buf (Elt Ideal) ℓ) (c : Dev nD) :
    res_main_v40 m c = refPack (refCode (refProd (m ((c.tc : Thread nD τ).loc main_arg0)) (m ((c.tc : Thread nD τ).loc main_arg1)) (m ((c.tc : Thread nD τ).loc main_arg2)))
      (refScale (refAmax (refProd (m ((c.tc : Thread nD τ).loc main_arg0)) (m ((c.tc : Thread nD τ).loc main_arg1)) (m ((c.tc : Thread nD τ).loc main_arg2)))))) := rfl

/-- The reference's run: both results at their formulas, the arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v40) = (fun y : S3x1792x512.Idx =>
        Spec.byte (m ((c.tc : Thread nD τ).loc main_arg0)) (m ((c.tc : Thread nD τ).loc main_arg1)) (m ((c.tc : Thread nD τ).loc main_arg2)) (y 0) (y 1) (y 2))
      ∧ r.2.mem ((c.tc : Thread nD τ).loc main_v17) = (fun y : S3x28x512.Idx =>
        Spec.scale (m ((c.tc : Thread nD τ).loc main_arg0)) (m ((c.tc : Thread nD τ).loc main_arg1)) (m ((c.tc : Thread nD τ).loc main_arg2)) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h c).1.trans ((res_codes m c).trans (funext fun y => ?_)),
    (h c).2.1.trans (Eq.trans (b := refScale (refAmax (refProd (m ((c.tc : Thread nD τ).loc main_arg0)) (m ((c.tc : Thread nD τ).loc main_arg1)) (m ((c.tc : Thread nD τ).loc main_arg2))))) rfl (funext fun y => ?_)), (h c).2.2⟩) (run m ρ)
  · exact (congrArg _ (eq_ix3 y)).trans (ref_byte _ _ _ (y 0 : Fin 3) (y 1 : Fin 1792) (y 2 : Fin 512))
  · exact (congrArg _ (eq_ix3 y)).trans (ref_scale _ _ _ (y 0 : Fin 3) (y 1 : Fin 28) (y 2 : Fin 512))

end Cert.ReferenceIdeal.Value

end
-- ==== Proof.PureKernel.lean ====
/- The kernel's payloads read at an element, as the scalar formulas of `Cert.Spec`. -/
module

public import proofs.«01_k».proof.Proof.Uniform
public import proofs.«01_k».proof.Proof.Spec
public import Idealize.ShloMosaic.Lib.BitcastPair

@[expose] public section

set_option maxRecDepth 16384

noncomputable section

namespace Cert.KernelIdeal.Body

open Idealize.ShloMosaic Idealize.ShloMosaic.TcCoe
open Cert.KernelIdeal Cert.KernelIdeal.Gen

/-- The codes before packing: `codeOf` of each element at its column's scale. -/
def kcode (q : FVec Ideal S128x512 .f32) : IVec S128x512 32 :=
  fptosi 32 (minimumf (broadcast S128x512 (Scalar.sitofp (F := Ideal) .f32 7#32)) (maximumf (broadcast S128x512 (Scalar.sitofp (F := Ideal) .f32 4294967289#32))
    (roundeven (divf q (broadcastTo S128x512 (k0_pay32 (absf q)) broadcasts_S1x512_S128x512)))))

/-- The packing: the codes cut to four bits, widened to 16, read two rows to a word, their low halves put in a byte. -/
def kpack (z : IVec S128x512 32) : IVec S1x64x512 8 :=
  have v222 : IVec S64x512 32 := bitcast S64x512 32 (extsi 16 (trunci 4 z natLt_4_32) natLt_4_16) bitcasts_S128x512_w16_S64x512_w32
  shapeCast S1x64x512 (trunci 8 (ori (andi v222 (broadcast S64x512 15#32))
    (shli (andi (shrsi v222 (broadcast S64x512 16#32)) (broadcast S64x512 15#32)) (broadcast S64x512 4#32))) natLt_8_32) shapeCasts_S64x512_S1x64x512

theorem code_eq (q : FVec Ideal S128x512 .f32) : code (F := Ideal) q = kpack (kcode q) := rfl

/-- Row `r` of the word view of a 16-bit array is its rows `2 r + 1` and `2 r` side by side. -/
theorem words_at (x : IVec S128x512 16) (r : Fin 64) (l : Fin 512) :
    bitcast S64x512 32 x bitcasts_S128x512_w16_S64x512_w32 (ix2 r l)
      = x (ix2 (⟨2 * r.val + 1, by omega⟩ : Fin 128) l) ++ x (ix2 (⟨2 * r.val, by omega⟩ : Fin 128) l) := by
  rw [bitcast_16_32]
  have hrow : Shape.row (s := S64x512) (ix2 r l) = r.val := rfl
  refine congrArg₂ (fun a b => x a ++ x b) ?_ ?_
  · funext a
    match a with
    | ⟨0, _⟩ => exact Fin.ext ((Shape.Bitcasts.srcIdx_row _ _ _ _ _ rfl).trans (by rw [hrow]; rfl))
    | ⟨1, _⟩ => exact Fin.ext (Shape.Bitcasts.srcIdx_other _ _ _ _ _ (by show ¬ (1 + 2 = 2); decide))
  · funext a
    match a with
    | ⟨0, _⟩ => exact Fin.ext ((Shape.Bitcasts.srcIdx_row _ _ _ _ _ rfl).trans (by rw [hrow]; rfl))
    | ⟨1, _⟩ => exact Fin.ext (Shape.Bitcasts.srcIdx_other _ _ _ _ _ (by show ¬ (1 + 2 = 2); decide))

theorem kpack_at (z : IVec S128x512 32) (r : Fin 64) (l : Fin 512) :
    kpack z (ix3 0 r l) = Spec.byteOf (z (ix2 (⟨2 * r.val, by omega⟩ : Fin 128) l)) (z (ix2 (⟨2 * r.val + 1, by omega⟩ : Fin 128) l)) := by
  pointwise [kpack]
  exact Spec.byte_of_pair _ _ _ (words_at _ r l)

theorem scl_at (q : FVec Ideal S128x512 .f32) (l : Fin 512) :
    scl (F := Ideal) q (ix3 0 0 l) = Spec.scaleOf (Spec.amaxOf fun k => q (ix2 k l)) := by
  pointwise [scl, k0_pay34, k0_pay32]
  rfl

theorem kcode_at (q : FVec Ideal S128x512 .f32) (k : Fin 128) (l : Fin 512) :
    kcode q (ix2 k l) = Spec.codeOf (q (ix2 k l)) (Spec.scaleOf (Spec.amaxOf fun k => q (ix2 k l))) := by
  pointwise [kcode, k0_pay32]
  rfl

theorem code_at (q : FVec Ideal S128x512 .f32) (r : Fin 64) (l : Fin 512) :
    code (F := Ideal) q (ix3 0 r l) = Spec.byteOf
      (Spec.codeOf (q (ix2 (⟨2 * r.val, by omega⟩ : Fin 128) l)) (Spec.scaleOf (Spec.amaxOf fun k => q (ix2 k l))))
      (Spec.codeOf (q (ix2 (⟨2 * r.val + 1, by omega⟩ : Fin 128) l)) (Spec.scaleOf (Spec.amaxOf fun k => q (ix2 k l)))) := by
  rw [code_eq, kpack_at, kcode_at, kcode_at]

/-- Row `k` of group `g` of a product is its row `128 g + k`. -/
theorem grp_at (q : FVec Ideal S256x512 .f32) (g : ℕ) (hg : g < 2) (k : Fin 128) (l : Fin 512) :
    grp (F := Ideal) g q (ix2 k l) = q (ix2 (⟨128 * g + k.val, by omega⟩ : Fin 256) l) := by
  have : g = 0 ∨ g = 1 := by omega
  rcases this with h | h <;> subst h
  · unfold grp
    rw [if_pos rfl]
    pointwise [grpA]
  · unfold grp
    rw [if_neg (by decide)]
    pointwise [grpB]

/-- The product at a point, from the codes, the weight scales and the point's block of the square factor. -/
theorem prod_at (X : IVec S3x3584x512 8) (W : FVec Ideal S3x512 .f32) (x2 : FVec Ideal S3584x256 .bf16) (b : Fin 3) (r : Fin 256) (l : Fin 512) :
    prod (F := Ideal) (k0_pay3 (F := Ideal) X) W x2 b (ix2 r l) = (∑ j : Fin 3584, x2 (ix2 j r) * (((X (ix3 b j l)).toInt : ℝ) : EReal)) * W (ix2 b l) := by
  pointwise [prod, k0_pay4, k0_pay3, slab, wrow]
  rfl

end Cert.KernelIdeal.Body

end
-- ==== Proof.Value.lean ====
/- The kernel's two result arrays after its run, as the scalar formulas of `Cert.Spec` over the argument arrays. -/
module

public import proofs.«01_k».proof.Proof.Data
public import proofs.«01_k».proof.Proof.PureKernel
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic Idealize.SL.Sem
open Idealize.ShloMosaic.Pipeline (Dat Cfg Window)
open Cert.KernelIdeal Cert.KernelIdeal.Gen

variable (m : (ℓ : Loc nD τ sig) → Buf (Elt Ideal) ℓ)

/-- The block each window reads or writes at each point. -/
theorem idx : ∀ t : Fin cfg0.N, win0_0.index t = ![0, 0, 0] ∧ win0_1.index t = ![0, 0] ∧ win0_2.index t = ![0, t.val]
    ∧ win0_3.index t = ![0, t.val, 0] ∧ win0_4.index t = ![0, 0, 0] :=
  (by decide +kernel : ∀ t : Fin grid0.N, _)

theorem lt_of_point (t : Fin cfg0.N) : t.val < 14 := lt_of_lt_of_eq t.isLt (show cfg0.N = 14 from N_0)

/-! The input blocks, read off the argument arrays. -/
theorem codes_block (c : Dev nD) (t : Fin cfg0.N) (b : Fin 3) (j : Fin 3584) (l : Fin 512) :
    iblk m c 0 t (ix3 b j l) = m ((c.tc : Thread nD τ).loc main_arg0) (ix3 b j l) := by
  blk_ext [iblk, V, idx t]

theorem wscales_block (c : Dev nD) (t : Fin cfg0.N) (b : Fin 3) (l : Fin 512) :
    iblk m c 1 t (ix2 b l) = m ((c.tc : Thread nD τ).loc main_arg1) (ix2 b l) := by
  blk_ext [iblk, V, idx t]

theorem factor_block (c : Dev nD) (t : Fin cfg0.N) (j : Fin 3584) (r : Fin 256) :
    iblk m c 2 t (ix2 j r) = m ((c.tc : Thread nD τ).loc main_arg2) (ix2 j (⟨256 * t.val + r.val, by have := lt_of_point t; omega⟩ : Fin 3584)) := by
  blk_ext [iblk, V, idx t]

/-- Row `k` of group `g` of the product at point `t` is row `256 t + 128 g + k` of the whole product. -/
theorem group_at (c : Dev nD) (t : Fin cfg0.N) (g : ℕ) (hg : g < 2) (b : Fin 3) (k : Fin 128) (l : Fin 512) :
    grp (F := Ideal) g (prod (xw m c) (iblk m c 1 t) (iblk m c 2 t) b) (ix2 k l)
      = Spec.pr (m ((c.tc : Thread nD τ).loc main_arg0)) (m ((c.tc : Thread nD τ).loc main_arg1)) (m ((c.tc : Thread nD τ).loc main_arg2)) b
          ⟨256 * t.val + (128 * g + k.val), by have := lt_of_point t; omega⟩ l := by
  rw [grp_at _ g hg]
  unfold xw
  rw [prod_at]
  unfold Spec.pr
  refine congrArg₂ (fun x y : EReal => x * y) (Finset.sum_congr rfl fun j _ => ?_) (wscales_block m c t b l)
  rw [factor_block, codes_block]

/-- A group's scale at a point is the whole product's group's. -/
theorem group_scale (c : Dev nD) (t : Fin cfg0.N) (g : ℕ) (hg : g < 2) (b : Fin 3) (l : Fin 512) (G : Fin 28) (hG : G.val = 2 * t.val + g) :
    Spec.scaleOf (Spec.amaxOf fun k => grp (F := Ideal) g (prod (xw m c) (iblk m c 1 t) (iblk m c 2 t) b) (ix2 k l))
      = Spec.scale (m ((c.tc : Thread nD τ).loc main_arg0)) (m ((c.tc : Thread nD τ).loc main_arg1)) (m ((c.tc : Thread nD τ).loc main_arg2)) b G l := by
  unfold Spec.scale
  refine congrArg (fun f => Spec.scaleOf (Spec.amaxOf f)) (funext fun k => ?_)
  rw [group_at m c t g hg]
  exact congrArg (fun row => Spec.pr _ _ _ b row l) (Fin.ext (by show 256 * t.val + (128 * g + k.val) = 128 * G.val + k.val; omega))

/-- The scales at an element. -/
theorem scales_at (c : Dev nD) (b : Fin 3) (G : Fin 28) (l : Fin 512) :
    scales m c (ix3 b G l) = Spec.scale (m ((c.tc : Thread nD τ).loc main_arg0)) (m ((c.tc : Thread nD τ).loc main_arg1)) (m ((c.tc : Thread nD τ).loc main_arg2)) b G l := by
  show scl (grp (G.val % 2) (prod (xw m c) (iblk m c 1 (ptOf G)) (iblk m c 2 (ptOf G)) b)) (ix3 (0 : Fin 1) (0 : Fin 1) l) = _
  rw [scl_at]
  exact group_scale m c (ptOf G) (G.val % 2) (by omega) b l G (by show G.val = 2 * (G.val / 2) + G.val % 2; omega)

/-- The block of packed codes at a point, at an element. -/
theorem codes_at (c : Dev nD) (t : Fin cfg0.N) (b : Fin 3) (r : Fin 128) (l : Fin 512) :
    out3 (F := Ideal) (xw m c) (iblk m c 1 t) (iblk m c 2 t) (ix3 b r l)
      = Spec.byte (m ((c.tc : Thread nD τ).loc main_arg0)) (m ((c.tc : Thread nD τ).loc main_arg1)) (m ((c.tc : Thread nD τ).loc main_arg2)) b
          (⟨128 * t.val + r.val, by have := lt_of_point t; omega⟩ : Fin 1792) l := by
  have ht := lt_of_point t
  show code (grp (r.val / 64) (prod (xw m c) (iblk m c 1 t) (iblk m c 2 t) b)) (ix3 (0 : Fin 1) (⟨r.val % 64, by omega⟩ : Fin 64) l) = _
  rw [code_at, group_scale m c t (r.val / 64) (by omega) b l ⟨(128 * t.val + r.val) / 64, by omega⟩ (by show (128 * t.val + r.val) / 64 = _; omega),
    group_at m c t _ (by omega), group_at m c t _ (by omega)]
  unfold Spec.byte
  refine congrArg₂ Spec.byteOf (congrArg₂ Spec.codeOf (congrArg (fun row => Spec.pr _ _ _ b row l) (Fin.ext ?_)) rfl)
    (congrArg₂ Spec.codeOf (congrArg (fun row => Spec.pr _ _ _ b row l) (Fin.ext ?_)) rfl)
  · show 256 * t.val + (128 * (r.val / 64) + 2 * (r.val % 64)) = 2 * (128 * t.val + r.val)
    omega
  · show 256 * t.val + (128 * (r.val / 64) + (2 * (r.val % 64) + 1)) = 2 * (128 * t.val + r.val) + 1
    omega

/-- The packed codes' array after the run. -/
theorem final_codes (c : Dev nD) : (dats m 0 c).arrAt 3 cfg0.N = fun y : S3x1792x512.Idx =>
    Spec.byte (m ((c.tc : Thread nD τ).loc main_arg0)) (m ((c.tc : Thread nD τ).loc main_arg1)) (m ((c.tc : Thread nD τ).loc main_arg2)) (y 0) (y 1) (y 2) := by
  refine (dats m 0 c).arrAt_eq_of_covers 3 _ (by decide +kernel) fun t _ y => ?_
  rw [after0_3]
  have e : (cfg0.win 3).xinj (cfg0.grid.coords t) y = (ix3 (y 0 : Fin 3) (y 1 : Fin 128) (y 2 : Fin 512) : S3x128x512.Idx) := by
    funext a
    match a with
    | ⟨0, _⟩ => rfl
    | ⟨1, _⟩ => rfl
    | ⟨2, _⟩ => rfl
  rw [e]
  refine (codes_at m c t (y 0 : Fin 3) (y 1 : Fin 128) (y 2 : Fin 512)).trans ?_
  have e0 : (y 0 : Fin 3) = ((cfg0.win 3).blk t).view.emb y 0 := Fin.ext (by blk_simp; simp [idx t])
  have e1 : (⟨128 * t.val + (y 1 : Fin 128).val, by have h := lt_of_point t; have h1 : (y 1 : Fin 128).val < 128 := (y 1 : Fin 128).isLt; exact (by omega : ∀ a b : ℕ, a < 14 → b < 128 → 128 * a + b < 1792) _ _ h h1⟩ : Fin 1792) = ((cfg0.win 3).blk t).view.emb y 1 :=
    Fin.ext (by blk_simp; simp [idx t]; exact Nat.mul_comm _ _)
  have e2 : (y 2 : Fin 512) = ((cfg0.win 3).blk t).view.emb y 2 := Fin.ext (by blk_simp; simp [idx t])
  rw [← e0, ← e1, ← e2]

/-- Narrowing the scales leaves each as it is, over extended reals. -/
theorem rounded_at (S : FVec Ideal S3x28x512 .f32) (b : Fin 3) (g : Fin 28) (l : Fin 512) : k0_pay2 (F := Ideal) S (ix3 b g l) = S (ix3 b g l) := by
  pointwise [k0_pay2]

/-- The last grid point. -/
def tl : Fin cfg0.N := ⟨13, by rw [show cfg0.N = 14 from N_0]; decide⟩

/-- The scales' array after the run. -/
theorem final_scales (c : Dev nD) : (dats m 0 c).arrAt 4 cfg0.N = fun y : S3x28x512.Idx =>
    Spec.scale (m ((c.tc : Thread nD τ).loc main_arg0)) (m ((c.tc : Thread nD τ).loc main_arg1)) (m ((c.tc : Thread nD τ).loc main_arg2)) (y 0) (y 1) (y 2) := by
  refine (dats m 0 c).arrAt_eq_of_after_last 4 tl (by decide +kernel) _ fun j => ?_
  rw [after0_4]
  have e : (fun a => ⟨(j a).val, (j a).isLt⟩ : S3x28x512.Idx) = ix3 (j 0 : Fin 3) (j 1 : Fin 28) (j 2 : Fin 512) := by
    funext a
    match a with
    | ⟨0, _⟩ => rfl
    | ⟨1, _⟩ => rfl
    | ⟨2, _⟩ => rfl
  refine (congrArg (k0_pay2 (F := Ideal) (scales m c)) e).trans ((rounded_at _ _ _ _).trans ((scales_at m c (j 0 : Fin 3) (j 1 : Fin 28) (j 2 : Fin 512)).trans ?_))
  have e0 : (j 0 : Fin 3) = (cfg0.win 4).arr.view.emb j 0 := Fin.ext (by blk_simp)
  have e1 : (j 1 : Fin 28) = (cfg0.win 4).arr.view.emb j 1 := Fin.ext (by blk_simp)
  have e2 : (j 2 : Fin 512) = (cfg0.win 4).arr.view.emb j 2 := Fin.ext (by blk_simp)
  rw [← e0, ← e1, ← e2]

/-- The kernel's run: both results at their formulas, the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v0_0) = (fun y : S3x1792x512.Idx =>
        Spec.byte (m ((c.tc : Thread nD τ).loc main_arg0)) (m ((c.tc : Thread nD τ).loc main_arg1)) (m ((c.tc : Thread nD τ).loc main_arg2)) (y 0) (y 1) (y 2))
      ∧ r.2.mem ((c.tc : Thread nD τ).loc main_v0_1) = (fun y : S3x28x512.Idx =>
        Spec.scale (m ((c.tc : Thread nD τ).loc main_arg0)) (m ((c.tc : Thread nD τ).loc main_arg1)) (m ((c.tc : Thread nD τ).loc main_arg2)) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_codes m c), ((h.1 c).1 4).trans (final_scales m c), h.2 c⟩)
    (θ_run_and (run_main m ρ) (unchanged m ρ))

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Printed
public import proofs.«01_k».proof.Proof.PureReference
public import proofs.«01_k».proof.Proof.Value
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, its arguments end unchanged, every semaphore counter ends at zero. -/
theorem reference_frame : Cert.quiescent_ReferenceIdeal (hReferenceIdeal := Cert.ReferenceIdeal.Gen.facts) := by
  intro m g _
  exact (θ_run _ _ _).mono (fun r h => ⟨fun c => (h c).2.2, Idealize.ShloMosaic.sem_eq_zero_of_no_sems (by decide) r.2⟩)
    (Cert.ReferenceIdeal.Value.run_values m g)

/-- The kernel and the reference, idealized, end at the same packed codes and the same scales on the same arguments. -/
theorem same_results : Cert.algebraic_KernelIdeal_ReferenceIdeal (hKernelIdeal := Cert.KernelIdeal.Gen.facts) (hReferenceIdeal := Cert.ReferenceIdeal.Gen.facts) := by
  intro m g m' g' _ hagree
  refine ⟨_, _, Cert.KernelIdeal.Body.run_values m g, ?_⟩
  refine (θ_run _ _ _).mono (fun r h c => ?_) (Cert.ReferenceIdeal.Value.run_values m' g')
  obtain ⟨h0, h1, h2⟩ := h c
  obtain ⟨a0, a1, a2⟩ := hagree c
  refine ⟨h0.trans ?_, h1.trans ?_, h2⟩
  · rw [a0, a1, a2]
  · rw [a0, a1, a2]

/-- Every claim of the certificate. -/
theorem claim : Cert.Claim := ⟨Cert.Kernel.Gen.facts, Cert.KernelIdeal.Gen.facts, Cert.ReferenceIdeal.Gen.facts,
  Cert.Kernel.Body.frame,
  fun m ρ _ => Cert.KernelIdeal.Body.frame m ρ,
  reference_frame,
  trivial,
  same_results⟩

end Cert.Proof

end
